-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S2048x512 : Shape := ⟨2, ![2048, 512]⟩
abbrev S3x512x256 : Shape := ⟨3, ![3, 512, 256]⟩
abbrev S3 : Shape := ⟨1, ![3]⟩
abbrev S_ : Shape := ⟨0, ![]⟩
abbrev S1 : Shape := ⟨1, ![1]⟩
abbrev S1x512x256 : Shape := ⟨3, ![1, 512, 256]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S2048x512, .f32⟩
  | .local _ .vmem, ⟨0, _⟩ => ⟨S512x256, .f32⟩
  | .local _ .vmem, ⟨1, _⟩ => ⟨S256x512, .f32⟩
  | .local _ .vmem, ⟨2, _⟩ => ⟨S2048x512, .f32⟩
  | .local _ .vmem, ⟨3, _⟩ => ⟨S512x256, .bf16⟩
  | .local _ .vmem, ⟨4, _⟩ => ⟨S256x512, .bf16⟩
  | .local _ .vmem, ⟨5, _⟩ => ⟨S3x512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v28 : BitVec 32 := Scalar.addi v2 c2_i32_20
  let c4_i32_21 : BitVec 32 := 4#32
  let v29 : BitVec 32 := Scalar.remsi v28 c4_i32_21
  let c1_i32_25 : BitVec 32 := 1#32
  let v30 : BitVec 32 := Scalar.muli v29 c1_i32_25
  let v31 : BitVec 32 := Scalar.addi c0_i32_26 v30
  v31.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v38 : BitVec 32 := Scalar.addi v2 c1_i32_29
  let c4_i32_30 : BitVec 32 := 4#32
  let v39 : BitVec 32 := Scalar.remsi v38 c4_i32_30
  let c1_i32_34 : BitVec 32 := 1#32
  let v40 : BitVec 32 := Scalar.muli v39 c1_i32_34
  let v41 : BitVec 32 := Scalar.addi c0_i32_35 v40
  v41.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v48 : BitVec 32 := Scalar.addi v2 c3_i32_38
  let c4_i32_39 : BitVec 32 := 4#32
  let v49 : BitVec 32 := Scalar.remsi v48 c4_i32_39
  let c1_i32_43 : BitVec 32 := 1#32
  let v50 : BitVec 32 := Scalar.muli v49 c1_i32_43
  let v51 : BitVec 32 := Scalar.addi c0_i32_44 v50
  v51.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v61 : BitVec 32 := Scalar.muli v2 c512_i32
  let v62 : Index := Scalar.indexCast v61
  let c0_51 : Index := 0#32
  ![v62.toNat, 0]
def k0_off2 (d0 : Dev nD) (c1_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_59 : BitVec 32 := 4#32
  let v70 : BitVec 32 := Scalar.addi v2 c4_i32_59
  let v71 : BitVec 32 := Scalar.subi v70 c1_i32_60
  let c4_i32_61 : BitVec 32 := 4#32
  let v72 : BitVec 32 := Scalar.remsi v71 c4_i32_61
  let c512_i32_68 : BitVec 32 := 512#32
  let v77 : BitVec 32 := Scalar.muli v72 c512_i32_68
  let v78 : Index := Scalar.indexCast v77
  let c0_69 : Index := 0#32
  ![v78.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x256 : Shape := ⟨2, ![2048, 256]⟩
abbrev S256x512 : Shape := ⟨2, ![256, 512]⟩
abbrev S2048x512 : Shape := ⟨2, ![2048, 512]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Protocol.lean ====
/-
# The exchange: who signals whom, what each semaphore hands over, and in what order one may wait

Each of the four devices holds one block of 512 rows of `A` and all of `B`. It rounds both to bf16, sends its
block of `A` to the three other devices, and multiplies every block it has (its own and the three it receives)
by `B`, so that each device ends with the whole product.

The devices handshake first: each signals the barrier semaphore of the three others and waits for three signals. Only
then does it copy, so that no copy lands in a buffer whose owner has not entered the kernel. The copy to the device `k + 1`
places ahead lands in slot `k` of that device's landing buffer.

This module fixes the vocabulary of the proof (`peer`, `origin`, the cells, the contents) and the schedule of the
semaphores: which units a cell receives, and what each unit hands to the waiting device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.Tactic

@[expose] public section

set_option maxRecDepth 16384

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own, and the exchange's with duties named by `Fin 3` -/

/-- The ghost state of the exchange's semaphore rounds. -/
abbrev UB : Type := URounds (GSem nD τ sig) (Fin 3)
/-- The pipeline's ghost state beside the exchange's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The exchange's part. -/
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The four devices -/

set_option backward.proofsInPublic true in
/-- The device `k + 1` places ahead of `c`: the one whose slot `k` the copy of `c` lands in. -/
def peer (c : Dev nD) (k : Fin 3) : Dev nD := ⟨(c.val + k.val + 1) % 4, Nat.mod_lt _ (by decide)⟩
set_option backward.proofsInPublic true in
/-- The device `k + 1` places behind `c`: the one whose block lands in slot `k` of `c`. -/
def origin (c : Dev nD) (k : Fin 3) : Dev nD := ⟨(c.val + 3 - k.val) % 4, Nat.mod_lt _ (by decide)⟩
set_option backward.proofsInPublic true in
/-- The place number seen from the other side: `c` is `opp k` places further on from its peer `k`. -/
def opp (k : Fin 3) : Fin 3 := ⟨2 - k.val, by omega⟩

/-- The block in slot `k` of `c`'s peer `k` comes from `c`. -/
theorem origin_peer (c : Dev nD) (k : Fin 3) : origin (peer c k) k = c := by revert c k; decide
/-- The device whose block lands in slot `k` of `c` has `c` as its peer `k`. -/
theorem peer_origin (c : Dev nD) (k : Fin 3) : peer (origin c k) k = c := by revert c k; decide
/-- Going on from a peer by the opposite place number leads back. -/
theorem peer_opp (c : Dev nD) (k : Fin 3) : peer (peer c k) (opp k) = c := by revert c k; decide
/-- The opposite of the opposite. -/
theorem opp_opp (k : Fin 3) : opp (opp k) = k := by revert k; decide

/-- The device numbers that the kernel computes, in the order in which it uses them: three signals, then three copies. -/
theorem dev1_eq (c : Dev nD) : (⟨k0_dev1 c, k0_dev1_lt c⟩ : Dev nD) = peer c 0 := Fin.ext (k0_dev1_eq c)
/-- The second signal goes two places ahead. -/
theorem dev2_eq (c : Dev nD) : (⟨k0_dev2 c, k0_dev2_lt c⟩ : Dev nD) = peer c 1 := Fin.ext (k0_dev2_eq c)
/-- The third signal goes three places ahead. -/
theorem dev3_eq (c : Dev nD) : (⟨k0_dev3 c, k0_dev3_lt c⟩ : Dev nD) = peer c 2 := Fin.ext (k0_dev3_eq c)
/-- The first copy goes two places ahead. -/
theorem dev4_eq (c : Dev nD) : (⟨k0_dev4 c, k0_dev4_lt c⟩ : Dev nD) = peer c 1 := Fin.ext (k0_dev4_eq c)
/-- The second copy goes one place ahead. -/
theorem dev5_eq (c : Dev nD) : (⟨k0_dev5 c, k0_dev5_lt c⟩ : Dev nD) = peer c 0 := Fin.ext (k0_dev5_eq c)
/-- The third copy goes three places ahead. -/
theorem dev6_eq (c : Dev nD) : (⟨k0_dev6 c, k0_dev6_lt c⟩ : Dev nD) = peer c 2 := Fin.ext (k0_dev6_eq c)

/-! ## The buffers -/

/-- The block of `A`, staged. -/
abbrev xM : Memref sig .tc .vmem S512x256 .f32 := Memref.whole cc0_stg0_0
/-- `B`, staged. -/
abbrev yM : Memref sig .tc .vmem S256x512 .f32 := Memref.whole cc0_stg1_0
/-- The result, staged. -/
abbrev oM : Memref sig .tc .vmem S2048x512 .f32 := Memref.whole cc0_stg2_0
/-- The device's own block of `A`, rounded: the source of its three copies. -/
abbrev aM : Memref sig .tc .vmem S512x256 .bf16 := Memref.whole cc0_scratch0
/-- `B`, rounded. -/
abbrev bM : Memref sig .tc .vmem S256x512 .bf16 := Memref.whole cc0_scratch1
/-- The landing buffer: three slots, one per peer. -/
abbrev cM : Memref sig .tc .vmem S3x512x256 .bf16 := Memref.whole cc0_scratch2

/-- Slot `k` lies inside the landing buffer. -/
theorem slot_inb (k : Fin 3) (a : Fin S3x512x256.rank) : (![k.val, 0, 0] : Fin 3 → ℕ) a + S1x512x256.size a ≤ S3x512x256.size a := by
  revert a; revert k; decide
/-- The elements of slot `k`. -/
abbrev slotR (k : Fin 3) : Rect S3x512x256 := Rect.unit (s := S3x512x256) ![k.val, 0, 0] S1x512x256.size (slot_inb k)
/-- Slot `k` of the landing buffer, as a 512 × 256 array. -/
abbrev slotM (k : Fin 3) : Memref sig .tc .vmem S512x256 .bf16 :=
  (cM.slice (slotR k) (fun _ => rfl)).squeeze S512x256 squeezes_S1x512x256_S512x256

/-! ## The semaphores and their cells -/

/-- The barrier semaphore. -/
abbrev barS : Sem sig := (SemArray.scalar (sig.barrier 0 rfl) : Sems sig S_).sem
/-- Semaphore `k` lies inside an array of three. -/
theorem sem_inb (k : Fin 3) (a : Fin S3.rank) : (![k.val] : Fin 1 → ℕ) a + S1.size a ≤ S3.size a := by
  revert a; revert k; decide
/-- The semaphore counting the copy to peer `k` having left. -/
abbrev sendS (k : Fin 3) : DmaSem sig := ((cc0_scratch3.slice (Rect.unit (s := S3) ![k.val] S1.size (sem_inb k))).squeeze S_ squeezes_S1_S_).sem
/-- The semaphore counting the block in slot `k` having landed. -/
abbrev recvS (k : Fin 3) : DmaSem sig := ((cc0_scratch4.slice (Rect.unit (s := S3) ![k.val] S1.size (sem_inb k))).squeeze S_ squeezes_S1_S_).sem

/-- The roles of the kernel's own semaphores: three for sending, three for receiving. -/
abbrev Own : Type := Fin 3 ⊕ Fin 3
/-- The roles of all the semaphores of the exchange: the barrier, and those. -/
abbrev Role : Type := Unit ⊕ Own

/-- The semaphore of each of the kernel's own roles. -/
abbrev osem : Own → SemLoc sig
  | .inl k => .dma (sendS k)
  | .inr k => .dma (recvS k)
/-- The semaphore of each role. -/
abbrev csem : Role → SemLoc sig
  | .inl _ => .reg barS
  | .inr o => osem o
/-- The cell of a role on a device. -/
abbrev kcell (ck : Dev nD × Role) : GSem nD τ sig := ((ck.1 : Thread nD τ), csem ck.2)

/-- The barrier's role. -/
abbrev bar : Role := .inl ()
/-- The role of sending to peer `k`. -/
abbrev snd (k : Fin 3) : Role := .inr (.inl k)
/-- The role of receiving into slot `k`. -/
abbrev rcv (k : Fin 3) : Role := .inr (.inr k)

/-- All roles. -/
def roles : List Role := [bar, snd 0, snd 1, snd 2, rcv 0, rcv 1, rcv 2]
/-- The role of a semaphore, if it has one in the exchange. -/
def roleOf (s : SemLoc sig) : Option Role := roles.find? fun r => csem r = s

/-- A role's semaphore has that role. -/
theorem roleOf_csem (r : Role) : roleOf (csem r) = some r := by revert r; decide
/-- Different roles have different semaphores. -/
theorem csem_injective : Function.Injective csem := fun r r' h => by
  have := congrArg roleOf h
  rw [roleOf_csem, roleOf_csem] at this
  exact Option.some.inj this

/-- The units that one copy of a block delivers. -/
abbrev N : ℕ := (aM : Memref sig .tc .vmem S512x256 .bf16).view.dmaCredit
/-- They are at least one. -/
theorem N_pos : 0 < N := View.dmaCredit_pos _ (by decide)
/-- A slot's copy delivers the same number. -/
theorem slot_credit (k : Fin 3) : (slotM k).view.dmaCredit = N := rfl

/-! ## The contents -/

/-- The block of `A` that the pipeline stages on device `c`. -/
def aStg (c : Dev nD) : (cc0_stg0_0 : Ref sig .tc).ty.Contents (Elt F) :=
  (win0_0.blk (0 : Fin 1)).view.read (Elt F) ((s₀ m ρ).mem ((c : Thread nD τ).loc main_arg0))
/-- The `B` that the pipeline stages on device `c`. -/
def bStg (c : Dev nD) : (cc0_stg1_0 : Ref sig .tc).ty.Contents (Elt F) :=
  (win0_1.blk (0 : Fin 1)).view.read (Elt F) ((s₀ m ρ).mem ((c : Thread nD τ).loc main_arg1))
/-- Device `c`'s block of `A`, rounded. -/
def aBf (c : Dev nD) : (cc0_scratch0 : Ref sig .tc).ty.Contents (Elt F) := k0_pay1 (aStg m ρ c)
/-- Device `c`'s `B`, rounded. -/
def bBf (c : Dev nD) : (cc0_scratch1 : Ref sig .tc).ty.Contents (Elt F) := k0_pay2 (bStg m ρ c)

/-- A share of the rounded block, which several readers may hold at once. -/
def aPts (c : Dev nD) (q : PosShare TreeShare) (f : (cc0_scratch0 : Ref sig .tc).ty.Contents (Elt F)) : sProp 𝕄 :=
  (aM : Memref sig .tc .vmem S512x256 .bf16).view.loc (c : Thread nD τ) ↦[(aM : Memref sig .tc .vmem S512x256 .bf16).view.set]{q} f
/-- The share lent to the copy to peer `k`. -/
def lent (k : Fin 3) : PosShare TreeShare := Ring.shares3 fullShare.right k
/-- The share kept, to multiply from while the copies run. -/
def kept : PosShare TreeShare := fullShare.left

/-- Slot `k` of the landing buffer of `c`, at some contents. -/
def slotPts (c : Dev nD) (k : Fin 3) : sProp 𝕄 :=
  iprop(∃ f : Buf (Elt F) ((slotM k).view.loc (c : Thread nD τ)), (slotM k).view.loc (c : Thread nD τ) ↦[(slotM k).view.set]{fullShare} f)
/-- Slot `k` of the landing buffer of `c`, reading the rounded block of the device it comes from. -/
def slotFull (c : Dev nD) (k : Fin 3) : sProp 𝕄 :=
  iprop(∃ f : Buf (Elt F) ((slotM k).view.loc (c : Thread nD τ)), ⌜(slotM k).view.read (Elt F) f = aBf m ρ (origin c k)⌝
    ∗ ((slotM k).view.loc (c : Thread nD τ) ↦[(slotM k).view.set]{fullShare} f))

omit [FloatOps F] in
instance aPts_storable (c : Dev nD) (q : PosShare TreeShare) (f) : BI.Storable (upEmb : UEmb _ 𝕄) (aPts (F := F) c q f) := by
  unfold aPts; infer_instance
omit [FloatOps F] in
instance slotPts_storable (c : Dev nD) (k : Fin 3) : BI.Storable (upEmb : UEmb _ 𝕄) (slotPts (F := F) c k) := by
  unfold slotPts; infer_instance
instance slotFull_storable (c : Dev nD) (k : Fin 3) : BI.Storable (upEmb : UEmb _ 𝕄) (slotFull (F := F) m ρ c k) := by
  unfold slotFull; infer_instance

/-! ## The schedule -/

/-- The duties of a role's cell: the barrier has one per peer, a copy's semaphore a single one. -/
def roleDuties : Role → Finset (Fin 3)
  | .inl _ => Finset.univ
  | .inr _ => {0}
/-- The units of one duty. -/
def roleUnits : Role → ℕ
  | .inl _ => 1
  | .inr _ => N
/-- What a duty of a cell of `c` hands over: duty `k` of the barrier, slot `k` of peer `k`'s landing buffer, which `c` is to
    fill; the duty of a sending cell, the lent share of the rounded block; the duty of a receiving cell, the slot filled. -/
def rolePay (c : Dev nD) : Role → Fin 3 → sProp 𝕄
  | .inl _, k => slotPts (peer c k) k
  | .inr (.inl k), _ => aPts c (lent k) (aBf m ρ c)
  | .inr (.inr k), _ => slotFull m ρ c k

instance rolePay_storable (c : Dev nD) (r : Role) (d : Fin 3) : BI.Storable (upEmb : UEmb _ 𝕄) (rolePay (F := F) m ρ c r d) :=
  match r with
  | .inl _ => slotPts_storable (peer c d) d
  | .inr (.inl k) => aPts_storable c (lent k) (aBf m ρ c)
  | .inr (.inr k) => slotFull_storable m ρ c k

/-- The whole schedule: one round, round 0, of each cell of the exchange. -/
def sched : Rounds.Schedule (GSem nD τ sig) (Fin 3) 𝕄 where
  duties g r := if r = 0 ∧ g.1.2 = .tc then (roleOf g.2).elim ∅ roleDuties else ∅
  unitless _ := False
  amount g _ _ := (roleOf g.2).elim 1 roleUnits
  payload g _ d := (roleOf g.2).elim iprop(emp) fun r => rolePay m ρ g.1.1 r d
  amount_pos g _ _ _ := by
    cases h : roleOf g.2 with
    | none => exact Nat.one_pos
    | some r => cases r with
      | inl _ => exact Nat.one_pos
      | inr _ => exact N_pos

instance sched_payload_storable (g : GSem nD τ sig) (r : ℕ) (d : Fin 3) :
    BI.Storable (upEmb : UEmb _ 𝕄) ((sched (F := F) m ρ).payload g r d) := by
  show BI.Storable upEmb ((roleOf g.2).elim iprop(emp) fun r => rolePay m ρ g.1.1 r d)
  cases roleOf g.2 with
  | none => show BI.Storable upEmb iprop(emp); infer_instance
  | some r => exact rolePay_storable m ρ g.1.1 r d

section Sched
variable (c : Dev nD) (r : Role)

/-- The duties of a role's cell in round 0. -/
theorem duties_cell : (sched (F := F) m ρ).duties (kcell (c, r)) 0 = roleDuties r := by
  dsimp only [sched]; rw [if_pos ⟨rfl, rfl⟩, roleOf_csem]; rfl
/-- No cell has a later round. -/
theorem duties_later (g : GSem nD τ sig) : ∀ n, 1 ≤ n → (sched (F := F) m ρ).duties g n = ∅ :=
  fun n hn => by dsimp only [sched]; rw [if_neg fun h => by omega]
/-- The units of a duty. -/
theorem amount_cell (d : Fin 3) : (sched (F := F) m ρ).amount (kcell (c, r)) 0 d = roleUnits r := by
  dsimp only [sched]; rw [roleOf_csem]; rfl
/-- What a duty hands over. -/
theorem payload_cell (d : Fin 3) : (sched (F := F) m ρ).payload (kcell (c, r)) 0 d = rolePay m ρ c r d := by
  dsimp only [sched]; rw [roleOf_csem]; rfl
/-- The units of the round. -/
theorem expect_cell : (sched (F := F) m ρ).expect (kcell (c, r)) 0 = (roleDuties r).card * roleUnits r := by
  unfold Schedule.expect Schedule.amountOf
  rw [duties_cell, Finset.sum_congr rfl fun d _ => amount_cell m ρ c r d, Finset.sum_const, smul_eq_mul]
/-- What the whole round hands over. -/
theorem rest_cell : bigSep ((sched (F := F) m ρ).duties (kcell (c, r)) 0 \ ∅) (fun d => (sched (F := F) m ρ).payload (kcell (c, r)) 0 d)
    = bigSep (roleDuties r) fun d => rolePay m ρ c r d := by
  rw [Finset.sdiff_empty, duties_cell]; exact bigSep_congr fun d _ => payload_cell m ρ c r d
end Sched

/-! ## What each device owes, and the order of waiting -/

/-- What device `c` owes slot `k` of its peer `k`: the units of one copy. -/
def owedCopy (c : Dev nD) (k : Fin 3) : CellTallies nD τ sig Unit := tallyAt (kcell (peer c k, rcv k)) () N
/-- What it owes the barrier of its peer `k`: one unit. -/
def owedBar (c : Dev nD) (k : Fin 3) : CellTallies nD τ sig Unit := tallyAt (kcell (peer c k, bar)) () 1
/-- What it owes once it has signalled: its three copies, the last made first. -/
def O₁ (c : Dev nD) : CellTallies nD τ sig Unit := owedCopy c 2 + owedCopy c 0 + owedCopy c 1
/-- What it owes at launch: its copies and its three signals. -/
def O₀ (c : Dev nD) : CellTallies nD τ sig Unit := O₁ c + owedBar c 2 + owedBar c 1 + owedBar c 0

/-- Every cell of a TensorCore carries the single index. -/
def L (g : GSem nD τ sig) : Finset Unit := if g.1.2 = .tc then {()} else ∅
/-- The level of a role: one may wait on a cell while owing cells of higher levels only. -/
def roleLevel : Role → ℕ
  | .inl _ => 1
  | .inr (.inl _) => 0
  | .inr (.inr _) => 2
/-- The level of a cell: those outside the exchange (the pipeline's staging) are lowest. -/
def lv (g : GSem nD τ sig) (_ : Unit) : ℕ := (roleOf g.2).elim 0 roleLevel

/-- A cell of another core carries no index. -/
theorem L_of_ne (g : GSem nD τ sig) (h : g.1.2 ≠ .tc) : L g = ∅ := if_neg h
/-- A cell of a TensorCore carries the index. -/
theorem L_tc (c : Dev nD) (sm : SemLoc sig) : L ((c : Thread nD τ), sm) = {()} := if_pos rfl
/-- The level of a role's cell. -/
theorem lv_cell (c : Dev nD) (r : Role) : lv (kcell (c, r)) () = roleLevel r := by unfold lv; rw [roleOf_csem]; rfl

/-- A copy is owed to a receiving cell only. -/
theorem owedCopy_pos {c : Dev nD} {k : Fin 3} {g : GSem nD τ sig} {u : Unit} (h : 0 < owedCopy c k g u) : g = kcell (peer c k, rcv k) := by
  unfold owedCopy at h; rw [tallyAt_apply] at h
  by_contra hn; rw [if_neg fun h' => hn h'.1] at h; exact Nat.lt_irrefl 0 h
/-- A signal is owed to a barrier cell only. -/
theorem owedBar_pos {c : Dev nD} {k : Fin 3} {g : GSem nD τ sig} {u : Unit} (h : 0 < owedBar c k g u) : g = kcell (peer c k, bar) := by
  unfold owedBar at h; rw [tallyAt_apply] at h
  by_contra hn; rw [if_neg fun h' => hn h'.1] at h; exact Nat.lt_irrefl 0 h
/-- After its signals a device owes receiving cells only. -/
theorem O₁_pos {c : Dev nD} {g : GSem nD τ sig} {u : Unit} (h : 0 < O₁ c g u) : ∃ d k, g = kcell (d, rcv k) := by
  unfold O₁ at h
  simp only [Pi.add_apply, Finsupp.add_apply] at h
  by_cases h2 : 0 < owedCopy c 2 g u
  · exact ⟨_, _, owedCopy_pos h2⟩
  by_cases h0 : 0 < owedCopy c 0 g u
  · exact ⟨_, _, owedCopy_pos h0⟩
  exact ⟨_, _, owedCopy_pos (c := c) (k := 1) (u := u) (by omega)⟩
/-- At launch it owes cells of level at least one only. -/
theorem O₀_pos {c : Dev nD} {g : GSem nD τ sig} {u : Unit} (h : 0 < O₀ c g u) : ∃ d r, g = kcell (d, r) ∧ 1 ≤ roleLevel r := by
  unfold O₀ at h
  simp only [Pi.add_apply, Finsupp.add_apply] at h
  by_cases h1 : 0 < O₁ c g u
  · obtain ⟨d, k, hg⟩ := O₁_pos h1; exact ⟨d, rcv k, hg, (by decide : 1 ≤ 2)⟩
  by_cases h2 : 0 < owedBar c 2 g u
  · exact ⟨_, bar, owedBar_pos h2, by decide⟩
  by_cases h3 : 0 < owedBar c 1 g u
  · exact ⟨_, bar, owedBar_pos h3, by decide⟩
  exact ⟨_, bar, owedBar_pos (c := c) (k := 0) (u := u) (by omega), by decide⟩

omit [FloatOps F] in
/-- The pipeline may wait on its staging semaphores whatever of the exchange is owed. -/
theorem mayWait_stage (c : Dev nD) (q : DmaSem sig) (hq : roleOf (.dma q) = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by obtain ⟨d, r, rfl, -⟩ := O₀_pos hg; exact Finset.mem_singleton_self _)
      (fun p hp => by rw [Finset.mem_singleton.mp hp]; dsimp only [lv]; rw [hq]; rfl)
      (fun g u hg => by obtain ⟨d, r, rfl, hr⟩ := O₀_pos hg; rw [lv_cell]; exact hr)
  · rw [MayWait_zero]; iintro -; iempintro

omit [FloatOps F] in
/-- A device may wait on its barrier while it owes its copies. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, k, rfl⟩ := O₁_pos hg; exact Finset.mem_singleton_self _)
    (fun p hp => by rw [Finset.mem_singleton.mp hp]; exact le_of_eq (lv_cell c bar))
    (fun g u hg => by obtain ⟨d, k, rfl⟩ := O₁_pos hg; rw [lv_cell]; exact (by decide : 1 < 2))

end Cert.GatherProof

end
-- ==== Proof.Memory.lean ====
/-
# The buffers in pieces

The rounded block of `A` is read by three copies and by the device's own multiplication at once, so its points-to is split
into four shares. The landing buffer is held slot by slot. The result is filled by four stores of 512 rows each, which
together cover it: whatever it held before, it ends as the named contents `outAt`.
-/
module

public import proofs.«01_k».proof.Proof.Protocol

@[expose] public section

set_option maxRecDepth 16384

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The starting corner of a whole-buffer access. -/
theorem corner : (![0, 0] : Fin 2 → ℕ) = fun _ => 0 := funext fun a => by fin_cases a <;> rfl

/-- A product over three places, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The rounded block in four shares -/

omit [FloatOps F] in
/-- The whole buffer is the share kept and the three shares lent. -/
theorem aPts_shares (c : Dev nD) (f : (cc0_scratch0 : Ref sig .tc).ty.Contents (Elt F)) :
    (((c : Thread nD τ).loc cc0_scratch0) ↦{fullShare} f : sProp 𝕄)
      ⊣⊢ iprop(aPts c kept f ∗ aPts c (lent 0) f ∗ aPts c (lent 1) f ∗ aPts c (lent 2) f) := by
  unfold aPts lent kept
  rw [View.set_whole]
  have h₁ : (((c : Thread nD τ).loc cc0_scratch0) ↦{fullShare} f : sProp 𝕄)
      ⊣⊢ iprop((((c : Thread nD τ).loc cc0_scratch0) ↦{fullShare.left} f) ∗ (((c : Thread nD τ).loc cc0_scratch0) ↦{fullShare.right} f)) :=
    pointsTo_share (PosShare.mem_left_op_right fullShare)
  have h₂ : (((c : Thread nD τ).loc cc0_scratch0) ↦{fullShare.right} f : sProp 𝕄)
      ⊣⊢ iprop((((c : Thread nD τ).loc cc0_scratch0) ↦{Ring.shares3 fullShare.right 0} f) ∗ (((c : Thread nD τ).loc cc0_scratch0) ↦{Ring.shares3 fullShare.right 1} f)
        ∗ (((c : Thread nD τ).loc cc0_scratch0) ↦{Ring.shares3 fullShare.right 2} f)) :=
    Ring.pointsTo_thirds (Val := Elt F) (ℓ := (c : Thread nD τ).loc cc0_scratch0) (I := Finset.univ) fullShare.right f
  refine ⟨?_, ?_⟩
  · iintro H
    ihave H' := h₁.1 $$ H
    icases H' with ⟨H0, Hr⟩
    ihave Hr' := h₂.1 $$ Hr
    isplitl [H0]; · iexact H0
    iexact Hr'
  · iintro ⟨H0, Hr⟩
    iapply h₁.2
    isplitl [H0]; · iexact H0
    iapply h₂.2; iexact Hr

/-! ## The landing buffer slot by slot -/

/-- The elements of a slot are those of its rectangle. -/
theorem slot_set (k : Fin 3) : (slotM k).view.set = (slotR k).set :=
  (View.set_reshape (v := (cM.slice (slotR k) (fun _ => rfl)).view) squeezes_S1x512x256_S512x256.numel_eq).trans
    (View.set_slice_whole cc0_scratch2 (slotR k))

/-- Different slots share no element. -/
theorem slot_disjoint (k k' : Fin 3) (h : k ≠ k') : Disjoint (slotR k).set (slotR k').set :=
  Ring.lead_disjoint (s := S3x512x256) (0 : Fin 3) 1 (fun k : Fin 3 => ![k.val, 0, 0]) S1x512x256.size slot_inb
    (fun b => (Nat.one_mul _).symm) rfl k k' h

/-- The slots are the whole buffer. -/
theorem slot_cover : Finset.univ.biUnion (fun k => (slotR k).set) = Finset.univ :=
  Ring.lead_cover (s := S3x512x256) (0 : Fin 3) 1 (fun k : Fin 3 => ![k.val, 0, 0]) S1x512x256.size slot_inb
    (fun b => (Nat.one_mul _).symm) (fun b a ha => by fin_cases a <;> first | exact absurd rfl ha | rfl) rfl
    (fun a ha => by fin_cases a <;> first | exact absurd rfl ha | rfl) rfl

omit [FloatOps F] in
/-- A slot held is the elements of its rectangle held. -/
theorem slotPts_eq (c : Dev nD) (k : Fin 3) : slotPts (F := F) c k
    = (iprop(∃ f : Buf (Elt F) ((c : Thread nD τ).loc cc0_scratch2), ((c : Thread nD τ).loc cc0_scratch2) ↦[(slotR k).set]{fullShare} f) : sProp 𝕄) := by
  unfold slotPts; rw [slot_set]

omit [FloatOps F] in
/-- The elements of a slot's rectangle held are the slot held. -/
theorem slotPts_of (c : Dev nD) (k : Fin 3) (f : Buf (Elt F) ((c : Thread nD τ).loc cc0_scratch2)) :
    (((c : Thread nD τ).loc cc0_scratch2) ↦[(slotR k).set]{fullShare} f : sProp 𝕄) ⊢ slotPts c k := by
  rw [slotPts_eq]; iintro H; iexists f; iexact H

omit [FloatOps F] in
/-- The buffer held whole is its three slots held. -/
theorem slots_split (c : Dev nD) :
    iprop(∃ f : Buf (Elt F) ((c : Thread nD τ).loc cc0_scratch2), ((c : Thread nD τ).loc cc0_scratch2) ↦{fullShare} f)
      ⊢ (bigSep Finset.univ fun k => slotPts (F := F) c k : sProp 𝕄) := by
  iintro ⟨%f, H⟩
  ihave H' := (Entails.of_eq (Ring.pointsTo_blocks (ℓ := (c : Thread nD τ).loc cc0_scratch2) (fun k => (slotR k).set) slot_disjoint slot_cover f)) $$ H
  have hm : (bigSep Finset.univ fun k : Fin 3 => ((c : Thread nD τ).loc cc0_scratch2) ↦[(slotR k).set]{fullShare} f : sProp 𝕄)
      ⊢ (bigSep Finset.univ fun k => slotPts (F := F) c k : sProp 𝕄) :=
    bigSep_mono fun k _ => slotPts_of c k f
  iapply hm; iexact H'

/-- The three slots held are the buffer held whole, at some contents. -/
theorem slots_join (c : Dev nD) :
    (bigSep Finset.univ fun k => slotPts (F := F) c k : sProp 𝕄)
      ⊢ iprop(∃ f : Buf (Elt F) ((c : Thread nD τ).loc cc0_scratch2), ((c : Thread nD τ).loc cc0_scratch2) ↦{fullShare} f) := by
  simp only [slotPts_eq]
  exact Ring.pointsTo_blocks_join_exists (ℓ := (c : Thread nD τ).loc cc0_scratch2) (fun k => (slotR k).set) slot_disjoint slot_cover
    (fun _ => Classical.arbitrary _)

/-- A filled slot is a slot. -/
theorem slotFull_slotPts (c : Dev nD) (k : Fin 3) : slotFull m ρ c k ⊢ slotPts (F := F) c k := by
  unfold slotFull slotPts; iintro ⟨%f, -, H⟩; iexists f; iexact H

/-- Loading the rows of a slot from the landing buffer needs the slot's elements only. -/
theorem slot_load_set (k : Fin 3) : (cM : Memref sig .tc .vmem S3x512x256 .bf16).view.setOn (slotR k).toLoadRect.set ⊆ (slotM k).view.set := by
  rw [slot_set]
  intro i hi
  obtain ⟨x, hx, rfl⟩ := Finset.mem_map.mp hi
  exact hx

omit [FloatOps F] in
/-- What is loaded from a slot, with its unit axis dropped, is what the slot reads. -/
theorem slot_load (k : Fin 3) (f : (cc0_scratch2 : Ref sig .tc).ty.Contents (Elt F)) :
    shapeCast S512x256 ((cM : Memref sig .tc .vmem S3x512x256 .bf16).view.readAt (Elt F) (slotR k).toLoadRect f) shapeCasts_S1x512x256_S512x256
      = (slotM k).view.read (Elt F) f := rfl

/-! ## The result by rows -/

/-- The index of row `i 0 % 512` of a block of 512 rows. -/
def rowIn (i : S2048x512.Idx) : S512x512.Idx := fun a => match a with
  | ⟨0, _⟩ => ⟨(i 0).val % 512, Nat.mod_lt _ (by decide)⟩
  | ⟨1, _⟩ => ⟨(i 1).val, (i 1).isLt⟩
/-- The block of 512 rows that an index lies in. -/
def blockOf (i : S2048x512.Idx) : Dev nD := ⟨(i 0).val / 512, Nat.div_lt_of_lt_mul (i 0).isLt⟩

/-- The product on device `c`: block `o` of its rows is the rounded block of device `o` times the rounded `B`. -/
def outAt (c : Dev nD) : (cc0_stg2_0 : Ref sig .tc).ty.Contents (Elt F) :=
  fun i : S2048x512.Idx => (k0_pay3 (aBf m ρ (blockOf i)) (bBf m ρ c) : FVec F S512x512 .f32) (rowIn i)

omit [FloatOps F] in
/-- Storing 512 rows from row `512 * o` on replaces block `o` and leaves the others. -/
theorem store_rows {off : Fin 2 → ℕ} {inb : ∀ a, off a + S512x512.size a ≤ S2048x512.size a} (o : Dev nD) (ho : off = ![512 * o.val, 0])
    (f : (cc0_stg2_0 : Ref sig .tc).ty.Contents (Elt F)) (w : FVec F S512x512 .f32) :
    ((oM : Memref sig .tc .vmem S2048x512 .f32).access (Rect.unit (s := S2048x512) off S512x512.size inb) : View sig .tc _ _ _).write (Elt F) f w Finset.univ
      = fun i : S2048x512.Idx => if blockOf i = o then w (rowIn i) else f i := by
  subst ho
  funext i
  have hread (g : (cc0_stg2_0 : Ref sig .tc).ty.Contents (Elt F)) : (View.whole cc0_stg2_0).read (Elt F) g = g := View.read_whole _ g
  have hi := Nat.div_add_mod (i 0).val 512
  by_cases h : blockOf i = o
  · rw [if_pos h]
    have ho : (i 0).val / 512 = o.val := congrArg Fin.val h
    have he : (Rect.unit (s := S2048x512) ![512 * o.val, 0] S512x512.size inb).emb (rowIn i) = i := funext fun a => Fin.ext (by
      match a with
      | ⟨0, _⟩ => show 512 * o.val + 1 * ((i 0).val % 512) = (i 0).val; omega
      | ⟨1, _⟩ => show 0 + 1 * (i 1).val = (i 1).val; omega)
    have := View.read_slice_write_emb (v := View.whole cc0_stg2_0) (Rect.unit (s := S2048x512) ![512 * o.val, 0] S512x512.size inb) f w
      (Finset.mem_univ (rowIn i))
    rw [hread, he] at this
    exact this
  · rw [if_neg h]
    have := View.read_slice_write_of_not_mem (v := View.whole cc0_stg2_0) (Rect.unit (s := S2048x512) ![512 * o.val, 0] S512x512.size inb) f w
      Finset.univ (y := i) (fun hm => h (by
        rw [Rect.map_emb_univ] at hm
        have h0 := Rect.mem_set_unit.mp hm 0
        have h1 : 512 * o.val ≤ (i 0).val := h0.1
        have h2 : (i 0).val < 512 * o.val + 512 := h0.2
        exact Fin.ext (show (i 0).val / 512 = o.val by omega)))
    rw [hread, hread] at this
    exact this

/-- After the four stores of a device, in the order in which it makes them, the result is `outAt`, whatever it held before. -/
theorem stores_cover (c : Dev nD) (f : (cc0_stg2_0 : Ref sig .tc).ty.Contents (Elt F)) :
    (fun i : S2048x512.Idx => if blockOf i = origin c 1 then (k0_pay3 (aBf m ρ (origin c 1)) (bBf m ρ c) : FVec F S512x512 .f32) (rowIn i) else
      if blockOf i = origin c 2 then (k0_pay3 (aBf m ρ (origin c 2)) (bBf m ρ c) : FVec F S512x512 .f32) (rowIn i) else
      if blockOf i = origin c 0 then (k0_pay3 (aBf m ρ (origin c 0)) (bBf m ρ c) : FVec F S512x512 .f32) (rowIn i) else
      if blockOf i = c then (k0_pay3 (aBf m ρ c) (bBf m ρ c) : FVec F S512x512 .f32) (rowIn i) else f i) = outAt m ρ c := by
  funext i
  unfold outAt
  have hall : ∀ c o : Dev nD, o = origin c 1 ∨ o = origin c 2 ∨ o = origin c 0 ∨ o = c := by decide
  split
  · next h => rw [h]
  split
  · next h => rw [h]
  split
  · next h => rw [h]
  split
  · next h => rw [h]
  rcases hall c (blockOf i) with h | h | h | h <;> contradiction

end Cert.GatherProof

end
-- ==== Proof.Rules.lean ====
/-
# What a device holds, and one rule per kind of operation on a semaphore

The state that surrounds one device's run of the body, the proof data of the pipeline, and the rules for signalling a peer,
copying to a peer, waiting for a round of a cell and closing a cell, each stated once for every peer and every slot.
-/
module

public import proofs.«01_k».proof.Proof.Memory

@[expose] public section

set_option maxRecDepth 16384

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows, and what one device holds -/

/-- The cells' invariants, under the names at which the launch allocates them, and that every cell has reached round 0. -/
def records (K : Dev nD × Role → ℕ) : sProp 𝕄 :=
  iprop((bigSep Finset.univ fun ck : Dev nD × Role => cellInv ER (sched m ρ) (K ck) (kcell ck))
    ∗ bigSep Finset.univ fun ck : Dev nD × Role => reached ER (kcell ck) 0)

instance records_persistent (K : Dev nD × Role → ℕ) : BI.Persistent (records m ρ K) := by unfold records; infer_instance

/-- One cell's invariant. -/
theorem records_inv (K : Dev nD × Role → ℕ) (ck : Dev nD × Role) : records m ρ K ⊢ cellInv ER (sched m ρ) (K ck) (kcell ck) := by
  have h : (bigSep Finset.univ fun ck : Dev nD × Role => cellInv ER (sched m ρ) (K ck) (kcell ck) : sProp 𝕄) ⊢ cellInv ER (sched m ρ) (K ck) (kcell ck) :=
    bigSep_elim (Finset.mem_univ ck)
  unfold records; iintro ⟨H, -⟩; iapply h; iexact H
/-- One cell has reached round 0. -/
theorem records_reached (K : Dev nD × Role → ℕ) (ck : Dev nD × Role) : records m ρ K ⊢ (reached ER (kcell ck) 0 : sProp 𝕄) := by
  have h : (bigSep Finset.univ fun ck : Dev nD × Role => reached ER (kcell ck) 0 : sProp 𝕄) ⊢ reached ER (kcell ck) 0 :=
    bigSep_elim (Finset.mem_univ ck)
  unfold records; iintro ⟨-, H⟩; iapply h; iexact H

/-- The right to pay each duty that device `c` pays: at its peer's barrier, at its own sending cell, at its peer's slot. -/
def payToks (c : Dev nD) : sProp 𝕄 :=
  bigSep Finset.univ fun k : Fin 3 => iprop(dutyTok ER (kcell (peer c k, bar)) 0 (opp k) ∗ dutyTok ER (kcell (c, snd k)) 0 0
    ∗ dutyTok ER (kcell (peer c k, rcv k)) 0 0)

/-- The exchange's state that device `c` starts from. -/
def ghost (K : Dev nD × Role → ℕ) (c : Dev nD) : sProp 𝕄 :=
  iprop(records m ρ K ∗ (bigSep Finset.univ fun r : Role => atPos ER (kcell (c, r)) 0 ∅ 0) ∗ payToks c)

/-- That state, the credit for its four waits on what others owe it, and the order of waiting. -/
def start (c : Dev nD) : sProp 𝕄 :=
  iprop((∃ K, ghost m ρ K c) ∗ cred (tallyAt (kcell (c, bar)) () 3) ∗ (bigSep Finset.univ fun k : Fin 3 => cred (tallyAt (kcell (c, rcv k)) () N)) ∗ levAts L lv)

/-- A scratch buffer held whole, at some contents. -/
abbrev scratch (c : Dev nD) (b : Ref sig .tc) : sProp 𝕄 :=
  iprop(∃ f : Buf (Elt F) ((c : Thread nD τ).loc b), ((c : Thread nD τ).loc b) ↦{fullShare} f)

/-- The device before its body runs. -/
def Φ₀ (c : Dev nD) : sProp 𝕄 := iprop(start m ρ c ∗ scratch c cc0_scratch0 ∗ scratch c cc0_scratch1 ∗ scratch c cc0_scratch2)
/-- The device after it: its scratch buffers again, and every semaphore of the exchange at zero. -/
def Φ₁ (c : Dev nD) : sProp 𝕄 :=
  iprop((scratch c cc0_scratch0 ∗ scratch c cc0_scratch1 ∗ scratch c cc0_scratch2) ∗ bigSep Finset.univ fun r : Role => semVal (kcell (c, r)) 0)

/-- The proof data of the pipeline: what each window's array holds, what the body leaves in it, and what surrounds the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m ρ c
    | ⟨1, _⟩ => bStg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The body calls no kernel of its own. -/
abbrev 𝒱₀ : Variants := Variants.none

/-- What a device owes, whatever it has waited for. -/
def owing (c : Dev nD) (O : CellTallies nD τ sig Unit) : sProp 𝕄 := iprop(∃ W, owes (c : Thread nD τ) O W)

/-- A product over the roles, written out. -/
theorem bigSep_roles (Φ : Role → sProp 𝕄) : bigSep Finset.univ Φ
    = iprop(Φ bar ∗ Φ (snd 0) ∗ Φ (snd 1) ∗ Φ (snd 2) ∗ Φ (rcv 0) ∗ Φ (rcv 1) ∗ Φ (rcv 2)) :=
  bigSep_univ_eq_bigSepL [bar, snd 0, snd 1, snd 2, rcv 0, rcv 1, rcv 2] (by decide) (by decide) Φ

/-! ## One rule per kind of operation -/

section Rules

variable (K : Dev nD × Role → ℕ)

/-- The signal to peer `j` hands it the slot of this device that the peer will fill. -/
theorem wp_signal_peer (c n : Dev nD) (j : Fin 3) (hn : n = peer c j) {u : ℕ} (hu : u = 1) (O : CellTallies nD τ sig Unit)
    {α : Type} {Q : α → sProp 𝕄} {kont : PUnit → Prog (TpuEff nD τ sig (Elt F) Λ₀ .tc) α} :
    iprop(records m ρ K ∗ owing c (O + owedBar c j) ∗ dutyTok ER (kcell (peer c j, bar)) 0 (opp j) ∗ slotPts c (opp j))
      ⊢ iprop((owing c O -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS u) kont) Q) := by
  subst hn hu
  unfold owing
  iintro ⟨#HR, ⟨%W, HO⟩, Ht, Hs⟩ Hk
  iapply (Rounds.wp_signal 𝒱₀ ER (sched m ρ) (c : Thread nD τ) none (dst := (peer c j : Thread nD τ)) (κ := K (peer c j, bar))
      (d := opp j) (r := 0) (by rw [show ((peer c j : Thread nD τ), SemLoc.reg barS) = kcell (peer c j, bar) from rfl, duties_cell]; exact Finset.mem_univ _)
      (amount_cell m ρ (peer c j) bar (opp j)) () O rfl) $$ [HO Ht Hs]
  · isplitr; · iapply (records_inv m ρ K (peer c j, bar)); iexact HR
    isplitl [HO]; · iexact HO
    isplitl [Ht]; · iexact Ht
    isplitl [Hs]
    · rw [show (sched m ρ).payload ((peer c j : Thread nD τ), SemLoc.reg barS) 0 (opp j) = slotPts c (opp j) from
        (payload_cell m ρ (peer c j) bar (opp j)).trans (by show slotPts (peer (peer c j) (opp j)) (opp j) = _; rw [peer_opp])]
      iexact Hs
    iapply (records_reached m ρ K (peer c j, bar)); iexact HR
  iintro HO
  iapply Hk; iexists W; iexact HO

/-- The copy to peer `k`: a share of the rounded block is lent to it, and the peer's slot `k` will read that block. -/
theorem wp_send_slot (c n : Dev nD) (k : Fin 3) (hn : n = peer c k) {M : Memref sig .tc .vmem S512x256 .bf16} (hM : M = slotM k)
    {sS rS : DmaSem sig} (hs : sS = sendS k) (hr : rS = recvS k)
    {hsc : (M : Memref sig (Dev.tc n : Thread nD τ).2.kind .vmem S512x256 .bf16).view.ref.isScScratch = false}
    {hsrc : (aM : Memref sig .tc .vmem S512x256 .bf16).view.WordExact} {hdst : M.view.WordExact}
    {hsem : DmaTarget.Typed .vmem (.dma rS) (.remote (Dev.tc n : Thread nD τ) M (.dma sS) hsc)} (O : CellTallies nD τ sig Unit)
    {α : Type} {Q : α → sProp 𝕄} {kont : PUnit → Prog (TpuEff nD τ sig (Elt F) Λ₀ .tc) α} :
    iprop(records m ρ K ∗ aPts c (lent k) (aBf m ρ c) ∗ slotPts (peer c k) k ∗ owing c (O + owedCopy c k)
        ∗ dutyTok ER (kcell (c, snd k)) 0 0 ∗ dutyTok ER (kcell (peer c k, rcv k)) 0 0)
      ⊢ iprop(((cred (tallyAt (kcell (c, snd k)) () N) ∗ owing c O) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma aM (.remote (Dev.tc n : Thread nD τ) M (.dma sS) hsc) (.dma rS) hsrc hdst hsem) kont) Q) := by
  subst hn hM hs hr
  unfold owing aPts slotPts
  iintro ⟨#HR, Ha, ⟨%fd, Hs⟩, ⟨%W, HO⟩, HtS, HtV⟩ Hk
  iapply (Rounds.wp_send_pointsTo 𝒱₀ ER (sched m ρ) (c : Thread nD τ) none (κ₁ := K (c, snd k)) (κ₂ := K (peer c k, rcv k))
    (r₁ := 0) (r₂ := 0) (d₁ := 0) (d₂ := 0) (fd := fd) (fs := aBf m ρ c) (q := lent k)
    (by rw [show ((c : Thread nD τ), SemLoc.dma (sendS k)) = kcell (c, snd k) from rfl, duties_cell]; exact Finset.mem_singleton_self _)
    (by rw [show ((peer c k : Thread nD τ), SemLoc.dma (recvS k)) = kcell (peer c k, rcv k) from rfl, duties_cell]; exact Finset.mem_singleton_self _)
    () () N rfl (amount_cell m ρ c (snd k) 0) (amount_cell m ρ (peer c k) (rcv k) 0) O rfl (W := W)
    (by rw [show ((c : Thread nD τ), SemLoc.dma (sendS k)) = kcell (c, snd k) from rfl, payload_cell]; exact BI.Entails.refl _)
    (by
      rw [show ((peer c k : Thread nD τ), SemLoc.dma (recvS k)) = kcell (peer c k, rcv k) from rfl, payload_cell]
      show _ ⊢ slotFull m ρ (peer c k) k
      unfold slotFull
      iintro H
      iexists _
      isplitr
      · ipureintro
        exact (View.read_write_univ fd _).trans ((View.read_whole cc0_scratch0 (aBf m ρ c)).trans (by rw [origin_peer]))
      iexact H)) $$ [Ha Hs HO HtS HtV]
  · isplitr; · iapply (records_inv m ρ K (c, snd k)); iexact HR
    isplitr; · iapply (records_inv m ρ K (peer c k, rcv k)); iexact HR
    isplitl [Ha]; · iexact Ha
    isplitl [Hs]; · iexact Hs
    isplitl [HO]; · iexact HO
    isplitl [HtS]; · iexact HtS
    isplitr; · iapply (records_reached m ρ K (c, snd k)); iexact HR
    isplitl [HtV]; · iexact HtV
    iapply (records_reached m ρ K (peer c k, rcv k)); iexact HR
  iintro ⟨Hc, HO⟩
  iapply Hk
  isplitl [Hc]; · iexact Hc
  iexists W; iexact HO

/-- Waiting for a whole round of a role's cell: everything that the round hands over. -/
theorem wp_wait_role (c : Dev nD) (r : Role) {w : TpuEff nD τ sig (Elt F) Λ₀ .tc PUnit} {u : ℕ}
    (hw : ∀ k : PUnit → sProp 𝕄, wpE (defs₀ (F := F)) 𝒱₀ (c : Thread nD τ) none Set.univ w k = waitSpec (c : Thread nD τ) Set.univ (csem r) u k)
    (hu : u = (roleDuties r).card * roleUnits r) (O : CellTallies nD τ sig Unit)
    (hmay : (levAts L lv : sProp 𝕄) ⊢ MayWait (c : Thread nD τ) (csem r) () O)
    {α : Type} {Q : α → sProp 𝕄} {kont : PUnit → Prog (TpuEff nD τ sig (Elt F) Λ₀ .tc) α} :
    iprop(records m ρ K ∗ levAts L lv ∗ cred (tallyAt (kcell (c, r)) () u) ∗ owing c O ∗ atPos ER (kcell (c, r)) 0 ∅ 0)
      ⊢ iprop(((owing c O ∗ atPos ER (kcell (c, r)) (0 + 1) ∅ 0 ∗ bigSep (roleDuties r) fun d => rolePay m ρ c r d)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  unfold owing
  iintro ⟨#HR, #Hlev, Hc, ⟨%W, HO⟩, Hat⟩ Hk
  iapply (Rounds.wp_wait_rest_token 𝒱₀ ER (sched m ρ) (c : Thread nD τ) none (κ := K (c, r)) hw (Set.mem_univ _) () (O := O) (W := W) (R := 0) (m := 0)
      (T := ∅) (by rw [Nat.zero_add, hu]; exact (expect_cell m ρ c r).symm)) $$ [Hc HO Hat]
  · isplitr; · iapply (records_inv m ρ K (c, r)); iexact HR
    isplitl [Hc]; · iexact Hc
    isplitl [HO]; · iexact HO
    isplitr; · iapply hmay; iexact Hlev
    iexact Hat
  iintro ⟨HO, Hat, -, Hpay⟩
  ihave Hp := (Entails.of_eq (rest_cell m ρ c r)) $$ Hpay
  iapply Hk
  isplitl [HO]; · iexists _; iexact HO
  isplitl [Hat]; · iexact Hat
  iexact Hp

/-- Waiting for the three signals, the copies still owed: every peer's slot that this device fills. -/
theorem wp_wait_peers (c : Dev nD) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem bar) 3 Q)
    {α : Type} {Q : α → sProp 𝕄} {kont : PUnit → Prog (TpuEff nD τ sig (Elt F) Λ₀ .tc) α} :
    iprop(records m ρ K ∗ levAts L lv ∗ cred (tallyAt (kcell (c, bar)) () 3) ∗ owing c (O₁ c) ∗ atPos ER (kcell (c, bar)) 0 ∅ 0)
      ⊢ iprop(((owing c (O₁ c) ∗ atPos ER (kcell (c, bar)) (0 + 1) ∅ 0 ∗ slotPts (peer c 0) 0 ∗ slotPts (peer c 1) 1 ∗ slotPts (peer c 2) 2)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  have h := wp_wait_role m ρ K c bar hw (by decide) (O₁ c) (mayWait_bar c) (Q := Q) (kont := kont)
  rw [show (bigSep (roleDuties bar) fun d => rolePay m ρ c bar d)
    = iprop(slotPts (peer c 0) 0 ∗ slotPts (peer c 1) 1 ∗ slotPts (peer c 2) 2) from bigSep_three fun k => slotPts (peer c k) k] at h
  exact h

/-- Waiting for the block of slot `k`: the slot comes back holding it. -/
theorem wp_recv_slot (c : Dev nD) (k : Fin 3) {sem : DmaSem sig} (hs : sem = recvS k) {sp sp' : Space} {s s' : Shape} {e e' : EltTy}
    {src : Memref sig .tc sp' s' e'} {κ : Kind} {dst : Memref sig κ sp s e} {hsrc : src.view.WordExact} {hdst : dst.view.WordExact}
    (hN : dst.view.dmaCredit = N)
    {α : Type} {Q : α → sProp 𝕄} {kont : PUnit → Prog (TpuEff nD τ sig (Elt F) Λ₀ .tc) α} :
    iprop(records m ρ K ∗ levAts L lv ∗ cred (tallyAt (kcell (c, rcv k)) () N) ∗ owing c 0 ∗ atPos ER (kcell (c, rcv k)) 0 ∅ 0)
      ⊢ iprop(((owing c 0 ∗ atPos ER (kcell (c, rcv k)) (0 + 1) ∅ 0 ∗ slotFull m ρ c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hs
  have h := wp_wait_role m ρ K c (rcv k) (w := .waitDma2 (recvS k) src dst hsrc hdst)
    (fun R => (wpE_waitDma2_eq 𝒱₀ (c : Thread nD τ) none Set.univ R).trans (by rw [hN])) (by show N = Finset.card {0} * N; rw [Finset.card_singleton, Nat.one_mul]) 0
    (by rw [MayWait_zero]; exact BI.Affine.affine) (Q := Q) (kont := kont)
  rw [show (bigSep (roleDuties (rcv k)) fun d => rolePay m ρ c (rcv k) d) = slotFull m ρ c k from BI.bigSep_singleton] at h
  exact h

/-- Waiting for the copy to peer `k` to have left: the share lent to it comes back. -/
theorem wp_send_done (c : Dev nD) (k : Fin 3) {sem : DmaSem sig} (hs : sem = sendS k) {sp sp' : Space} {s s' : Shape} {e e' : EltTy}
    {src : Memref sig .tc sp' s' e'} {κ : Kind} {dst : Memref sig κ sp s e} {hsrc : src.view.WordExact} {hdst : dst.view.WordExact}
    (hN : dst.view.dmaCredit = N)
    {α : Type} {Q : α → sProp 𝕄} {kont : PUnit → Prog (TpuEff nD τ sig (Elt F) Λ₀ .tc) α} :
    iprop(records m ρ K ∗ levAts L lv ∗ cred (tallyAt (kcell (c, snd k)) () N) ∗ owing c 0 ∗ atPos ER (kcell (c, snd k)) 0 ∅ 0)
      ⊢ iprop(((owing c 0 ∗ atPos ER (kcell (c, snd k)) (0 + 1) ∅ 0 ∗ aPts c (lent k) (aBf m ρ c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hs
  have h := wp_wait_role m ρ K c (snd k) (w := .waitDma2 (sendS k) src dst hsrc hdst)
    (fun R => (wpE_waitDma2_eq 𝒱₀ (c : Thread nD τ) none Set.univ R).trans (by rw [hN])) (by show N = Finset.card {0} * N; rw [Finset.card_singleton, Nat.one_mul]) 0
    (by rw [MayWait_zero]; exact BI.Affine.affine) (Q := Q) (kont := kont)
  rw [show (bigSep (roleDuties (snd k)) fun d => rolePay m ρ c (snd k) d) = aPts c (lent k) (aBf m ρ c) from BI.bigSep_singleton] at h
  exact h

/-- A cell whose one round is over closes: its counter is the device's again, at zero. -/
theorem close_role (c : Dev nD) (r : Role) :
    iprop(records m ρ K ∗ atPos ER (kcell (c, r)) (0 + 1) ∅ 0) ⊢ (|={Set.univ}=> semVal (kcell (c, r)) 0 : sProp 𝕄) := by
  iintro ⟨#HR, Hat⟩
  iapply (Rounds.cell_close ER (sched m ρ) (Set.mem_univ (K (c, r))) (fun h => h) (R := 0 + 1) (duties_later m ρ (kcell (c, r))))
  isplitr; · iapply (records_inv m ρ K (c, r)); iexact HR
  iexact Hat

omit [FloatOps F] in
/-- A known fact is used at every member of a product. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All the cells of a device close together. -/
theorem close_all (c : Dev nD) :
    iprop(records m ρ K ∗ bigSep Finset.univ fun r : Role => atPos ER (kcell (c, r)) (0 + 1) ∅ 0)
      ⊢ (|={Set.univ}=> bigSep Finset.univ fun r : Role => semVal (kcell (c, r)) 0 : sProp 𝕄) :=
  (bigSep_knowing fun r _ => close_role m ρ K c r).trans (bigSep_fupd _ _)

/-! ## Reading and writing the buffers -/

/-- A load, with what it reads named by an equation. -/
theorem wp_load_as (c : Dev nD) {cs : CoreSpace} {s : Shape} {e : EltTy} {M : Memref sig .tc cs s e} {r : LoadRect s} {hl : M.view.LoadsAt r}
    {S : Finset (Idx (M.view.loc (c : Thread nD τ)))} {q : PosShare TreeShare} {f : Buf (Elt F) (M.view.loc (c : Thread nD τ))} {v : r.shape.Idx → Elt F e}
    (hS : M.view.setOn r.set ⊆ S) (hv : M.view.readAt (Elt F) r f = v)
    {α : Type} {Q : α → sProp 𝕄} {kont : (r.shape.Idx → Elt F e) → Prog (TpuEff nD τ sig (Elt F) Λ₀ .tc) α} :
    (M.view.loc (c : Thread nD τ) ↦[S]{q} f)
      ⊢ iprop(((M.view.loc (c : Thread nD τ) ↦[S]{q} f) -∗ wp frame (wpE (defs₀ (F := F)) 𝒱₀ (c : Thread nD τ) none) Set.univ (kont v) Q)
          -∗ wp frame (wpE (defs₀ (F := F)) 𝒱₀ (c : Thread nD τ) none) Set.univ (.op (.load M r hl) kont) Q) := by
  subst hv
  exact wp_load 𝒱₀ (c : Thread nD τ) none Set.univ hS

/-- A store, with what it leaves named by an equation. -/
theorem wp_store_as (c : Dev nD) {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1}
    {f g : Buf (Elt F) ((M.access r).loc (c : Thread nD τ))} (hw : (M.access r).write (Elt F) f w Finset.univ = g)
    {α : Type} {Q : α → sProp 𝕄} {kont : PUnit → Prog (TpuEff nD τ sig (Elt F) Λ₀ .tc) α} :
    ((M.access r).loc (c : Thread nD τ) ↦{fullShare} f)
      ⊢ iprop((((M.access r).loc (c : Thread nD τ) ↦{fullShare} g) -∗ wp frame (wpE (defs₀ (F := F)) 𝒱₀ (c : Thread nD τ) none) Set.univ (kont ⟨⟩) Q)
          -∗ wp frame (wpE (defs₀ (F := F)) 𝒱₀ (c : Thread nD τ) none) Set.univ (.op (.store M r w Finset.univ hx hm) kont) Q) := by
  subst hw
  exact wp_store 𝒱₀ (c : Thread nD τ) none Set.univ (Finset.subset_univ _)

/-- A load of the rounded block needs a share of it only. -/
theorem wp_load_block (c : Dev nD) (q : PosShare TreeShare) (f : (cc0_scratch0 : Ref sig .tc).ty.Contents (Elt F))
    {hl : (aM : Memref sig .tc .vmem S512x256 .bf16).view.LoadsAt (Rect.unit (s := S512x256) ![0, 0] S512x256.size inb_S512x256_S512x256_0_0).toLoadRect}
    {α : Type} {Q : α → sProp 𝕄} {kont : Vec F S512x256 .bf16 → Prog (TpuEff nD τ sig (Elt F) Λ₀ .tc) α} :
    aPts c q f
      ⊢ iprop((aPts c q f -∗ wp frame (wpE (defs₀ (F := F)) 𝒱₀ (c : Thread nD τ) none) Set.univ (kont f) Q)
          -∗ wp frame (wpE (defs₀ (F := F)) 𝒱₀ (c : Thread nD τ) none) Set.univ
              (.op (.load aM (Rect.unit (s := S512x256) ![0, 0] S512x256.size inb_S512x256_S512x256_0_0).toLoadRect hl) kont) Q) :=
  wp_load_as c (M := aM) (by rw [View.set_whole]; exact Finset.subset_univ _) (Memref.readAt_unit_zero (Elt F) cc0_scratch0 corner _ _)

/-- The rows of device `o` are loaded from the result's buffer, whose contents play no part in what follows, and then stored. -/
theorem wp_put_rows (c : Dev nD) (o : Dev nD) {off : Fin 2 → ℕ} (ho : off = ![512 * o.val, 0])
    (inb : ∀ a, off a + S512x512.size a ≤ S2048x512.size a) {w w' : FVec F S512x512 .f32} (hw : w = w')
    {hl : (oM : Memref sig .tc .vmem S2048x512 .f32).view.LoadsAt (Rect.unit (s := S2048x512) off S512x512.size inb).toLoadRect}
    {hx : ((oM : Memref sig .tc .vmem S2048x512 .f32).access (Rect.unit (s := S2048x512) off S512x512.size inb)).Stores Finset.univ}
    {hm : Finset.univ = Finset.univ ∨ ∀ a, (Rect.unit (s := S2048x512) off S512x512.size inb).stride a = 1}
    (f : (cc0_stg2_0 : Ref sig .tc).ty.Contents (Elt F))
    {α : Type} {Q : α → sProp 𝕄} {kont : PUnit → Prog (TpuEff nD τ sig (Elt F) Λ₀ .tc) α} :
    (((c : Thread nD τ).loc cc0_stg2_0) ↦{fullShare} f)
      ⊢ iprop(((((c : Thread nD τ).loc cc0_stg2_0) ↦{fullShare} (fun i : S2048x512.Idx => if blockOf i = o then w' (rowIn i) else f i))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.load oM (Rect.unit (s := S2048x512) off S512x512.size inb).toLoadRect hl)
                fun _ => .op (.store oM (Rect.unit (s := S2048x512) off S512x512.size inb) w Finset.univ hx hm) kont) Q) := by
  subst hw
  iintro Hout Hk
  iapply (wp_load 𝒱₀ (c : Thread nD τ) none Set.univ (m := oM) (Finset.subset_univ _)) $$ Hout; iintro Hout
  iapply (wp_store_as c (M := oM) (r := Rect.unit (s := S2048x512) off S512x512.size inb) (store_rows o ho f w)) $$ Hout
  iexact Hk

/-- A load of a filled slot reads the rounded block of the device that the slot's contents come from. -/
theorem wp_load_slot (c : Dev nD) (k : Fin 3)
    {hl : (cM : Memref sig .tc .vmem S3x512x256 .bf16).view.LoadsAt (slotR k).toLoadRect}
    {α : Type} {Q : α → sProp 𝕄} {kont : Vec F S1x512x256 .bf16 → Prog (TpuEff nD τ sig (Elt F) Λ₀ .tc) α} :
    slotFull m ρ c k
      ⊢ iprop((∀ v, ⌜shapeCast S512x256 v shapeCasts_S1x512x256_S512x256 = aBf m ρ (origin c k)⌝
            -∗ slotFull m ρ c k -∗ wp frame (wpE (defs₀ (F := F)) 𝒱₀ (c : Thread nD τ) none) Set.univ (kont v) Q)
          -∗ wp frame (wpE (defs₀ (F := F)) 𝒱₀ (c : Thread nD τ) none) Set.univ (.op (.load (cM : Memref sig .tc .vmem S3x512x256 .bf16) (slotR k).toLoadRect hl) kont) Q) := by
  unfold slotFull
  iintro ⟨%f, %hf, Hs⟩ Hk
  iapply (wp_load 𝒱₀ (c : Thread nD τ) none Set.univ (m := cM) (slot_load_set k)) $$ Hs; iintro Hs
  iapply Hk $$ %_ %((slot_load k f).trans hf)
  iexists f
  isplitr; · (ipureintro; exact hf)
  iexact Hs

/-- The step that is taken once for each peer: wait for the block of slot `k`, multiply it by the rounded `B`, and store the product at the rows
of the device that the block comes from. -/
theorem wp_block_step (c : Dev nD) (k : Fin 3) {sem : DmaSem sig} (hs : sem = recvS k) {sp sp' : Space} {s s' : Shape} {e e' : EltTy}
    {src : Memref sig .tc sp' s' e'} {κ : Kind} {dst : Memref sig κ sp s e} {hsrc : src.view.WordExact} {hdst : dst.view.WordExact}
    (hN : dst.view.dmaCredit = N)
    {hlc : (cM : Memref sig .tc .vmem S3x512x256 .bf16).view.LoadsAt (slotR k).toLoadRect}
    {hlb : (bM : Memref sig .tc .vmem S256x512 .bf16).view.LoadsAt (Rect.unit (s := S256x512) ![0, 0] S256x512.size inb_S256x512_S256x512_0_0).toLoadRect}
    {pay : FVec F S1x512x256 .bf16 → FVec F S256x512 .bf16 → FVec F S512x512 .f32}
    (hpay : ∀ v w, pay v w = k0_pay3 (shapeCast S512x256 v shapeCasts_S1x512x256_S512x256) w)
    {off : Fin 2 → ℕ} (ho : off = ![512 * (origin c k).val, 0]) (inb : ∀ a, off a + S512x512.size a ≤ S2048x512.size a)
    {hlo : (oM : Memref sig .tc .vmem S2048x512 .f32).view.LoadsAt (Rect.unit (s := S2048x512) off S512x512.size inb).toLoadRect}
    {hx : ((oM : Memref sig .tc .vmem S2048x512 .f32).access (Rect.unit (s := S2048x512) off S512x512.size inb)).Stores Finset.univ}
    {hm : Finset.univ = Finset.univ ∨ ∀ a, (Rect.unit (s := S2048x512) off S512x512.size inb).stride a = 1}
    (f : (cc0_stg2_0 : Ref sig .tc).ty.Contents (Elt F))
    {α : Type} {Q : α → sProp 𝕄} {kont : PUnit → Prog (TpuEff nD τ sig (Elt F) Λ₀ .tc) α} :
    iprop(records m ρ K ∗ levAts L lv ∗ cred (tallyAt (kcell (c, rcv k)) () N) ∗ owing c 0 ∗ atPos ER (kcell (c, rcv k)) 0 ∅ 0
        ∗ (((c : Thread nD τ).loc cc0_scratch1) ↦{fullShare} bBf m ρ c) ∗ (((c : Thread nD τ).loc cc0_stg2_0) ↦{fullShare} f))
      ⊢ iprop(((owing c 0 ∗ atPos ER (kcell (c, rcv k)) (0 + 1) ∅ 0 ∗ slotFull m ρ c k
              ∗ (((c : Thread nD τ).loc cc0_scratch1) ↦{fullShare} bBf m ρ c)
              ∗ (((c : Thread nD τ).loc cc0_stg2_0) ↦{fullShare} (fun i : S2048x512.Idx =>
                  if blockOf i = origin c k then (k0_pay3 (aBf m ρ (origin c k)) (bBf m ρ c) : FVec F S512x512 .f32) (rowIn i) else f i)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sem src dst hsrc hdst) fun _ =>
                .op (.load (cM : Memref sig .tc .vmem S3x512x256 .bf16) (slotR k).toLoadRect hlc) fun v : Vec F S1x512x256 .bf16 =>
                .op (.load (bM : Memref sig .tc .vmem S256x512 .bf16) (Rect.unit (s := S256x512) ![0, 0] S256x512.size inb_S256x512_S256x512_0_0).toLoadRect hlb) fun w : Vec F S256x512 .bf16 =>
                .op (.load oM (Rect.unit (s := S2048x512) off S512x512.size inb).toLoadRect hlo) fun _ =>
                .op (.store oM (Rect.unit (s := S2048x512) off S512x512.size inb) (pay v w) Finset.univ hx hm) kont) Q) := by
  iintro ⟨#HR, #Hlev, Hc, HO, Hat, Hb, Hout⟩ Hk
  iapply (wp_recv_slot m ρ K c k hs hN) $$ [Hc HO Hat]
  · isplitr; · iexact HR
    isplitr; · iexact Hlev
    isplitl [Hc]; · iexact Hc
    isplitl [HO]; · iexact HO
    iexact Hat
  iintro ⟨HO, Hat, Hs⟩
  iapply (wp_load_slot m ρ c k) $$ Hs; iintro %v %hv Hs
  iapply (wp_load_as c (M := bM) (Finset.subset_univ _) (Memref.readAt_unit_zero (Elt F) cc0_scratch1 corner _ _)) $$ Hb; iintro Hb
  iapply (wp_put_rows c (origin c k) ho inb (w' := k0_pay3 (aBf m ρ (origin c k)) (bBf m ρ c))
    ((hpay v (bBf m ρ c)).trans (congrArg (fun x => k0_pay3 x (bBf m ρ c)) hv))) $$ Hout; iintro Hout
  iapply Hk
  isplitl [HO]; · iexact HO
  isplitl [Hat]; · iexact Hat
  isplitl [Hs]; · iexact Hs
  isplitl [Hb]; · iexact Hb
  iexact Hout

end Rules

end Cert.GatherProof

end
-- ==== Proof.Body.lean ====
/-
# One device's run of the kernel

The body is followed operation by operation, in program order: the three signals, the two roundings, the barrier wait, the
three copies, the four multiplications with the waits between them, and the three waits for the copies to have left.
-/
module

public import proofs.«01_k».proof.Proof.Rules

@[expose] public section

set_option maxRecDepth 16384

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The pipeline has one point. -/
def t₀ : Fin cfg0.N := t0_0

omit [FloatOps F] in
/-- A whole buffer owned at contents `X` is its points-to at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body: the device's state, what it owes, the staged block, the staged `B`, and the result's buffer. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- After it: the inputs as they were, and the product in the result's buffer. -/
def bodyPost (c : Dev nD) : sProp 𝕄 :=
  iprop(Φ₁ c ∗ (dats m ρ 0 c).owesAt () t₀.succ ∗ stg c cc0_stg0_0 (aStg m ρ c) ∗ stg c cc0_stg1_0 (bStg m ρ c) ∗ stg c cc0_stg2_0 (outAt m ρ c))

/-- Where the kernel stores the product with the block in slot `k`: at the rows of the device that the block comes from. -/
theorem off2_eq (c : Dev nD) (k : Fin 3) : k0_off2 c (BitVec.ofNat 32 (1 + k.val)) = ![512 * (origin c k).val, 0] := k0_off2_eq c k

set_option maxHeartbeats 1600000 in
/-- The body, from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre Φ₀ start ghost payToks
  rw [bigSep_three, bigSep_three, bigSep_roles]
  iintro ⟨⟨⟨⟨⟨%K, #HR, ⟨HaB, HaS0, HaS1, HaS2, HaV0, HaV1, HaV2⟩, ⟨HtB0, HtS0, HtV0⟩, ⟨HtB1, HtS1, HtV1⟩, ⟨HtB2, HtS2, HtV2⟩⟩,
    HcB, ⟨HcV0, HcV1, HcV2⟩, #Hlev⟩, ⟨%fa, Ha⟩, ⟨%fb, Hb⟩, Hland⟩, Ho, ⟨%d0, %g0, %hg0, Hx⟩, ⟨%d1, %g1, %hg1, Hy⟩, ⟨%d2, %g2, %hg2, Hout⟩⟩, Hk⟩
  have hx : g0 = aStg m ρ c := by rw [hg0]; unfold Dat.before; rw [if_pos (fetch0_0 t₀)]; rfl
  have hy : g1 = bStg m ρ c := by rw [hg1]; unfold Dat.before; rw [if_pos (fetch0_1 t₀)]; rfl
  subst hx hy
  ihave Hsl := (slots_split (F := F) c) $$ Hland
  ihave Hsl' := (Entails.of_eq (bigSep_three (F := F) fun k => slotPts c k)) $$ Hsl
  icases Hsl' with ⟨Hs0, Hs1, Hs2⟩
  unfold Dat.owesAt Pipeline.owesWithin
  icases Ho with ⟨%W, %hW, HO⟩
  rw [show (dats m ρ 0 c).owed t₀.castSucc = O₀ c from rfl]
  ihave HO := (show owes (c : Thread nD τ) (O₀ c) W ⊢ (owing c (O₀ c) : sProp 𝕄) by unfold owing; iintro H; iexists W; iexact H) $$ HO
  -- the three signals
  unfold O₀
  iapply (wp_signal_peer m ρ K c _ 0 (dev1_eq c) rfl (O₁ c + owedBar c 2 + owedBar c 1)) $$ [HO HtB0 Hs2]
  · isplitr; · iexact HR
    isplitl [HO]; · iexact HO
    isplitl [HtB0]; · iexact HtB0
    iexact Hs2
  iintro HO
  iapply (wp_signal_peer m ρ K c _ 1 (dev2_eq c) rfl (O₁ c + owedBar c 2)) $$ [HO HtB1 Hs1]
  · isplitr; · iexact HR
    isplitl [HO]; · iexact HO
    isplitl [HtB1]; · iexact HtB1
    iexact Hs1
  iintro HO
  iapply (wp_signal_peer m ρ K c _ 2 (dev3_eq c) rfl (O₁ c)) $$ [HO HtB2 Hs0]
  · isplitr; · iexact HR
    isplitl [HO]; · iexact HO
    isplitl [HtB2]; · iexact HtB2
    iexact Hs0
  iintro HO
  -- the two roundings
  iapply (wp_load_as c (M := xM) (Finset.subset_univ _) (Memref.readAt_unit_zero (Elt F) cc0_stg0_0 corner _ _)) $$ Hx; iintro Hx
  iapply (wp_load 𝒱₀ (c : Thread nD τ) none Set.univ (m := aM) (Finset.subset_univ _)) $$ Ha; iintro Ha
  iapply (wp_store_as c (M := aM) (r := Rect.unit (s := S512x256) ![0, 0] S512x256.size inb_S512x256_S512x256_0_0)
    (Memref.write_access_unit_zero_univ (Elt F) cc0_scratch0 corner _ _ _)) $$ Ha; iintro Ha
  iapply (wp_load_as c (M := yM) (Finset.subset_univ _) (Memref.readAt_unit_zero (Elt F) cc0_stg1_0 corner _ _)) $$ Hy; iintro Hy
  iapply (wp_load 𝒱₀ (c : Thread nD τ) none Set.univ (m := bM) (Finset.subset_univ _)) $$ Hb; iintro Hb
  iapply (wp_store_as c (M := bM) (r := Rect.unit (s := S256x512) ![0, 0] S256x512.size inb_S256x512_S256x512_0_0)
    (Memref.write_access_unit_zero_univ (Elt F) cc0_scratch1 corner _ _ _)) $$ Hb; iintro Hb
  ihave Ha4 := (show ((((aM : Memref sig .tc .vmem S512x256 .bf16).access (Rect.unit (s := S512x256) ![0, 0] S512x256.size inb_S512x256_S512x256_0_0)).loc
      (c : Thread nD τ) ↦{fullShare} k0_pay1 (aStg m ρ c)) : sProp 𝕄)
    ⊢ iprop(aPts c kept (aBf m ρ c) ∗ aPts c (lent 0) (aBf m ρ c) ∗ aPts c (lent 1) (aBf m ρ c) ∗ aPts c (lent 2) (aBf m ρ c)) from
      (aPts_shares c (aBf m ρ c)).1) $$ Ha
  icases Ha4 with ⟨HaK, HaL0, HaL1, HaL2⟩
  -- the barrier wait: the peers' slots
  iapply (wp_wait_peers m ρ K c (wpE_semWait_eq 𝒱₀ (c : Thread nD τ) none Set.univ)) $$ [HcB HO HaB]
  · isplitr; · iexact HR
    isplitr; · iexact Hlev
    isplitl [HcB]; · iexact HcB
    isplitl [HO]; · iexact HO
    iexact HaB
  iintro ⟨HO, HaB, Hp0, Hp1, Hp2⟩
  -- the three copies
  unfold O₁
  iapply (wp_send_slot m ρ K c _ 1 (dev4_eq c) rfl rfl rfl (owedCopy c 2 + owedCopy c 0)) $$ [HaL1 Hp1 HO HtS1 HtV1]
  · isplitr; · iexact HR
    isplitl [HaL1]; · iexact HaL1
    isplitl [Hp1]; · iexact Hp1
    isplitl [HO]; · iexact HO
    isplitl [HtS1]; · iexact HtS1
    iexact HtV1
  iintro ⟨HcS1, HO⟩
  iapply (wp_send_slot m ρ K c _ 0 (dev5_eq c) rfl rfl rfl (owedCopy c 2)) $$ [HaL0 Hp0 HO HtS0 HtV0]
  · isplitr; · iexact HR
    isplitl [HaL0]; · iexact HaL0
    isplitl [Hp0]; · iexact Hp0
    isplitl [HO]; · iexact HO
    isplitl [HtS0]; · iexact HtS0
    iexact HtV0
  iintro ⟨HcS0, HO⟩
  ihave HO := (Entails.of_eq (congrArg (owing (F := F) c) (zero_add (owedCopy c 2)).symm)) $$ HO
  iapply (wp_send_slot m ρ K c _ 2 (dev6_eq c) rfl rfl rfl 0) $$ [HaL2 Hp2 HO HtS2 HtV2]
  · isplitr; · iexact HR
    isplitl [HaL2]; · iexact HaL2
    isplitl [Hp2]; · iexact Hp2
    isplitl [HO]; · iexact HO
    isplitl [HtS2]; · iexact HtS2
    iexact HtV2
  iintro ⟨HcS2, HO⟩
  -- the product with the device's own block
  iapply (wp_load_block c kept (aBf m ρ c)) $$ HaK; iintro HaK
  iapply (wp_load_as c (M := bM) (Finset.subset_univ _) (Memref.readAt_unit_zero (Elt F) cc0_scratch1 corner _ _)) $$ Hb; iintro Hb
  iapply (wp_put_rows c c (k0_off1_eq c) _ rfl) $$ Hout; iintro Hout
  -- and with each block that arrives
  iapply (wp_block_step m ρ K c 0 rfl (slot_credit 0) (fun _ _ => rfl) (off2_eq c 0) _ _) $$ [HcV0 HO HaV0 Hb Hout]
  · isplitr; · iexact HR
    isplitr; · iexact Hlev
    isplitl [HcV0]; · iexact HcV0
    isplitl [HO]; · iexact HO
    isplitl [HaV0]; · iexact HaV0
    isplitl [Hb]; · iexact Hb
    iexact Hout
  iintro ⟨HO, HaV0, Hs0, Hb, Hout⟩
  iapply (wp_block_step m ρ K c 2 rfl (slot_credit 2) (fun _ _ => rfl) (off2_eq c 2) _ _) $$ [HcV2 HO HaV2 Hb Hout]
  · isplitr; · iexact HR
    isplitr; · iexact Hlev
    isplitl [HcV2]; · iexact HcV2
    isplitl [HO]; · iexact HO
    isplitl [HaV2]; · iexact HaV2
    isplitl [Hb]; · iexact Hb
    iexact Hout
  iintro ⟨HO, HaV2, Hs2, Hb, Hout⟩
  iapply (wp_block_step m ρ K c 1 rfl (slot_credit 1) (fun _ _ => rfl) (off2_eq c 1) _ _) $$ [HcV1 HO HaV1 Hb Hout]
  · isplitr; · iexact HR
    isplitr; · iexact Hlev
    isplitl [HcV1]; · iexact HcV1
    isplitl [HO]; · iexact HO
    isplitl [HaV1]; · iexact HaV1
    isplitl [Hb]; · iexact Hb
    iexact Hout
  iintro ⟨HO, HaV1, Hs1, Hb, Hout⟩
  -- the copies have left
  iapply (wp_send_done m ρ K c 0 rfl rfl) $$ [HcS0 HO HaS0]
  · isplitr; · iexact HR
    isplitr; · iexact Hlev
    isplitl [HcS0]; · iexact HcS0
    isplitl [HO]; · iexact HO
    iexact HaS0
  iintro ⟨HO, HaS0, HaL0⟩
  iapply (wp_send_done m ρ K c 1 rfl rfl) $$ [HcS1 HO HaS1]
  · isplitr; · iexact HR
    isplitr; · iexact Hlev
    isplitl [HcS1]; · iexact HcS1
    isplitl [HO]; · iexact HO
    iexact HaS1
  iintro ⟨HO, HaS1, HaL1⟩
  iapply (wp_send_done m ρ K c 2 rfl rfl) $$ [HcS2 HO HaS2]
  · isplitr; · iexact HR
    isplitr; · iexact Hlev
    isplitl [HcS2]; · iexact HcS2
    isplitl [HO]; · iexact HO
    iexact HaS2
  iintro ⟨HO, HaS2, HaL2⟩
  -- every cell closes, and the buffers are whole again
  imod (close_all m ρ K c) $$ [HaB HaS0 HaS1 HaS2 HaV0 HaV1 HaV2] with Hz
  · isplitr; · iexact HR
    rw [bigSep_roles]
    isplitl [HaB]; · iexact HaB
    isplitl [HaS0]; · iexact HaS0
    isplitl [HaS1]; · iexact HaS1
    isplitl [HaS2]; · iexact HaS2
    isplitl [HaV0]; · iexact HaV0
    isplitl [HaV1]; · iexact HaV1
    iexact HaV2
  rw [wp_ret]; imodintro
  iapply Hk
  unfold bodyPost Φ₁ Dat.owesAt Pipeline.owesWithin owing
  rw [show (dats m ρ 0 c).owed t₀.succ = 0 from rfl]
  icases HO with ⟨%W', HO⟩
  isplitl [Hz HaK HaL0 HaL1 HaL2 Hb Hs0 Hs1 Hs2]
  · isplitr [Hz]
    · isplitl [HaK HaL0 HaL1 HaL2]
      · iexists _; iapply (aPts_shares c (aBf m ρ c)).2
        isplitl [HaK]; · iexact HaK
        isplitl [HaL0]; · iexact HaL0
        isplitl [HaL1]; · iexact HaL1
        iexact HaL2
      isplitl [Hb]; · iexists _; iexact Hb
      iapply (slots_join (F := F) c)
      rw [bigSep_three]
      isplitl [Hs0]; · iapply (slotFull_slotPts m ρ c 0); iexact Hs0
      isplitl [Hs1]; · iapply (slotFull_slotPts m ρ c 1); iexact Hs1
      iapply (slotFull_slotPts m ρ c 2); iexact Hs2
    iexact Hz
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; exact stores_cover m ρ c g2)
  iexact Hout

set_option maxRecDepth 4000 in
/-- The pipeline's obligation on the body: its one point runs from the buffers before to the buffers after. -/
theorem body_obligation (c : Dev nD) : BodyObligation (dats (F := F) m ρ 0 c) (defs₀ (F := F)) 𝒱₀ () Set.univ := fun t => by
  rw [show t = t₀ from fin_N0 t, bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _) cc0_scratch3 cc0_scratch4)
    (fun _ => bodyPost m ρ c)
  have h := sound_body m ρ c fun _ => bodyPost m ρ c
  iintro H
  iapply h
  isplitl [H]; · iexact H
  iintro H; iexact H

end Cert.GatherProof

end
-- ==== Proof.Run.lean ====
/-
# The launch

From the memory at launch to the four devices' runs: the cells and the tokens of the exchange are made, each token goes to the device that
performs its duty, the launch's credit is divided among the cells, and the library's launch theorem runs the four kernels. The last part reads
what the run leaves: the inputs unchanged and the product in the result's array.
-/
module

public import proofs.«01_k».proof.Proof.Body
public import Idealize.ShloMosaic.Lib.Pipeline.CollectiveSegs

@[expose] public section

set_option maxRecDepth 16384

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores are the six of its two arrays. -/
theorem ownSemFacts : Pipeline.OwnSemFacts cfg0.spec osem := by decide

/-- Every window is held at the full share. -/
theorem share_eq (c : Dev nD) (w : Fin cfg0.W) : (dats m ρ 0 c).share w = fullShare := by unfold Dat.share; split <;> rfl

/-- The cells of different devices or roles differ. -/
theorem kcell_injective : Function.Injective (kcell : Dev nD × Role → GSem nD τ sig) := fun a b h =>
  Prod.ext (congrArg (fun g : GSem nD τ sig => g.1.1) h) (csem_injective (congrArg Prod.snd h))

/-- All the cells of the exchange. -/
def cells : Finset (GSem nD τ sig) := Finset.univ.map ⟨kcell, kcell_injective⟩

/-- The duties of a device's cells: three on its barrier, one on each of its own semaphores. -/
abbrev tokOf (x : Dev nD × (Fin 3 ⊕ Own)) : GSem nD τ sig × ℕ × Fin 3 :=
  (kcell (x.1, x.2.elim (fun _ => bar) .inr), 0, x.2.elim id fun _ => 0)

/-- Different duties have different tokens. -/
theorem tokOf_injective : Function.Injective tokOf := fun a b h => by
  have hc := kcell_injective (congrArg Prod.fst h)
  have hd : a.2.elim id (fun _ => 0) = b.2.elim id (fun _ => 0) := congrArg (fun x => x.2.2) h
  refine Prod.ext (congrArg (fun p => p.1) hc) ?_
  have hr : a.2.elim (fun _ => bar) .inr = b.2.elim (fun _ => bar) .inr := congrArg (fun p => p.2) hc
  rcases a with ⟨_, k | o⟩ <;> rcases b with ⟨_, k' | o'⟩
  · exact congrArg Sum.inl hd
  · exact absurd hr Sum.inl_ne_inr
  · exact absurd hr Sum.inr_ne_inl
  · exact congrArg Sum.inr (Sum.inr_injective hr)

/-- The tokens of all the duties. -/
def tokens : Finset (GSem nD τ sig × ℕ × Fin 3) := Finset.univ.map ⟨tokOf, tokOf_injective⟩

/-- The launch element: the pipeline's part and the exchange's. -/
def u₀ : UU := (initOf (Pipeline.cells cfgs cellOf_inj) (Pipeline.launchToks cfgs cellOf_inj), initOf cells tokens)

/-- The tokens of the duties of the cells of device `c`. -/
def toks (c : Dev nD) : sProp 𝕄 :=
  iprop((bigSep Finset.univ fun k : Fin 3 => dutyTok ER (kcell (c, bar)) 0 k)
    ∗ (bigSep Finset.univ fun k : Fin 3 => dutyTok ER (kcell (c, snd k)) 0 0)
    ∗ bigSep Finset.univ fun k : Fin 3 => dutyTok ER (kcell (c, rcv k)) 0 0)

/-- What the launch element deals to device `c`. -/
def G (c : Dev nD) : sProp 𝕄 :=
  iprop((bigSep Finset.univ fun r : Role => roundState ER (sched m ρ) (kcell (c, r)) 0)
    ∗ ((bigSep Finset.univ fun r : Role => atPos ER (kcell (c, r)) 0 ∅ 0) ∗ bigSep Finset.univ fun r : Role => reached ER (kcell (c, r)) 0) ∗ toks c)

/-- What a device starts its run with, once every cell stands. -/
def G' (c : Dev nD) : sProp 𝕄 := iprop(∃ K, ghost m ρ K c)

/-- A product over all the cells, by devices and roles. -/
theorem bigSep_cells (Φ : GSem nD τ sig → sProp 𝕄) :
    bigSep cells Φ = bigSep Finset.univ fun c : Dev nD => bigSep Finset.univ fun r : Role => Φ (kcell (c, r)) := by
  unfold cells; rw [bigSep_map, bigSep_univ_prod]; rfl

/-- The launch element makes every cell's state, position and tokens. -/
theorem fund_exchange : BI.own (ER (initOf cells tokens)) ⊢ (|==> bigSep Finset.univ (G m ρ) : sProp 𝕄) := by
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [BI.bigSep_univ_sum, BI.bigSep_univ_sum]; rfl
  have h := Rounds.fund ER (sched m ρ) cells tokens
  rw [bigSep_cells, bigSep_cells, bigSep_cells, hT] at h
  refine h.trans (BI.bupd_mono ?_)
  unfold G
  rw [bigSep_sep', bigSep_sep', bigSep_sep']
  have hswap (A B C D : sProp 𝕄) : iprop(A ∗ B ∗ C ∗ D) ⊢ iprop(A ∗ (C ∗ B) ∗ D) := by
    iintro ⟨HA, HB, HC, HD⟩
    isplitl [HA]; · iexact HA
    isplitr [HD]
    · isplitl [HC] <;> iassumption
    iexact HD
  exact hswap _ _ _ _

/-- The counters that the launch hands a device — those of its own semaphores and that of its barrier — are those of its cells. -/
theorem sems_eq (c : Dev nD) :
    (bigSep Finset.univ fun r : Role => (semVal (kcell (c, r)) 0 : sProp 𝕄))
      = iprop(unscopedSems0 c ∗ Pipeline.ownSems0 (Ix := Unit) (Name := ℕ) (U := UU) (Lvl := ℕ) (Val := Elt F) (τ := τ) osem c) := by
  rw [BI.bigSep_univ_sum]
  unfold unscopedSems0
  rw [bigSep_eq_bigSepL_of_eq [SemLoc.reg barS] (by decide) (by decide), Finset.univ_unique, bigSep_singleton]
  rfl

/-- The cells of one device are opened. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun r : Role => iprop(∃ κ : ℕ, cellInv ER (sched m ρ) κ (kcell (c, r))))
          ∗ ((bigSep Finset.univ fun r : Role => atPos ER (kcell (c, r)) 0 ∅ 0) ∗ bigSep Finset.univ fun r : Role => reached ER (kcell (c, r)) 0) ∗ toks c) := by
  have hopen : iprop((bigSep Finset.univ fun r : Role => semVal (kcell (c, r)) 0) ∗ bigSep Finset.univ fun r : Role => roundState ER (sched m ρ) (kcell (c, r)) 0)
      ⊢ (|={Set.univ}=> bigSep Finset.univ fun r : Role => iprop(∃ κ : ℕ, cellInv ER (sched m ρ) κ (kcell (c, r))) : sProp 𝕄) := by
    rw [← bigSep_sep']
    exact (bigSep_mono fun r _ => (Rounds.body_intro ER (sched m ρ) (kcell (c, r))).trans inv_alloc).trans (bigSep_fupd _ _)
  rw [sems_eq] at hopen
  unfold G
  iintro ⟨Hos, Hus, Hst, Hrest⟩
  imod hopen $$ [Hos Hus Hst] with Hinv
  · isplitr [Hst]
    · isplitl [Hus] <;> iassumption
    iexact Hst
  imodintro
  isplitl [Hinv]; · iexact Hinv
  iexact Hrest

/-- Peer `k` of a device, and the number that the device has for that peer: its own inverse. -/
def across : Dev nD × Fin 3 ≃ Dev nD × Fin 3 where
  toFun x := (peer x.1 x.2, opp x.2)
  invFun x := (peer x.1 x.2, opp x.2)
  left_inv x := Prod.ext (peer_opp x.1 x.2) (opp_opp x.2)
  right_inv x := Prod.ext (peer_opp x.1 x.2) (opp_opp x.2)

/-- The device that a copy goes to, slot by slot. -/
def along : Dev nD × Fin 3 ≃ Dev nD × Fin 3 where
  toFun x := (peer x.1 x.2, x.2)
  invFun x := (origin x.1 x.2, x.2)
  left_inv x := Prod.ext (origin_peer x.1 x.2) rfl
  right_inv x := Prod.ext (peer_origin x.1 x.2) rfl

/-- The tokens go to the devices that perform the duties: a barrier's to the three peers that signal it, a slot's to the device that fills it,
and that of a copy having left stays. -/
theorem toks_dealt : (bigSep Finset.univ fun c : Dev nD => (toks c : sProp 𝕄)) = bigSep Finset.univ fun c : Dev nD => payToks c := by
  have hb := (bigSep_univ_equiv across fun x : Dev nD × Fin 3 => (dutyTok ER (kcell (x.1, bar)) 0 x.2 : sProp 𝕄))
  have hv := (bigSep_univ_equiv along fun x : Dev nD × Fin 3 => (dutyTok ER (kcell (x.1, rcv x.2)) 0 0 : sProp 𝕄))
  rw [bigSep_univ_prod, bigSep_univ_prod] at hb hv
  unfold toks payToks
  simp only [bigSep_sep']
  rw [hb, hv]
  rfl

/-- The records of all the cells, known to every device, and each device's positions and tokens. -/
theorem regroup :
    (bigSep Finset.univ fun c : Dev nD => iprop((bigSep Finset.univ fun r : Role => iprop(∃ κ : ℕ, cellInv ER (sched m ρ) κ (kcell (c, r))))
          ∗ ((bigSep Finset.univ fun r : Role => atPos ER (kcell (c, r)) 0 ∅ 0) ∗ bigSep Finset.univ fun r : Role => reached ER (kcell (c, r)) 0) ∗ toks c) : sProp 𝕄)
      ⊢ bigSep Finset.univ (G' m ρ) := by
  rw [bigSep_sep', bigSep_sep', bigSep_sep', toks_dealt, ← bigSep_univ_prod (fun ck : Dev nD × Role => iprop(∃ κ : ℕ, cellInv ER (sched m ρ) κ (kcell ck))),
    ← bigSep_univ_prod (fun ck : Dev nD × Role => (reached ER (kcell ck) 0 : sProp 𝕄))]
  have hdev (K : Dev nD × Role → ℕ) (c : Dev nD) : iprop(records m ρ K ∗ ((bigSep Finset.univ fun r : Role => atPos ER (kcell (c, r)) 0 ∅ 0) ∗ payToks c)) ⊢ G' m ρ c := by
    unfold G' ghost
    iintro ⟨#HR, Hat, Ht⟩
    iexists K
    isplitr; · iexact HR
    isplitl [Hat] <;> iassumption
  iintro ⟨HI, ⟨Hat, #HR⟩, Htok⟩
  ihave HK := (BI.bigSep_exists_pi Finset.univ (fun (ck : Dev nD × Role) (κ : ℕ) => (cellInv ER (sched m ρ) κ (kcell ck) : sProp 𝕄))) $$ HI
  icases HK with ⟨%K, #HI⟩
  iapply (bigSep_knowing (R := records m ρ K) fun c _ => hdev K c)
  isplitr
  · unfold records
    isplitl; · iexact HI
    iexact HR
  rw [bigSep_sep']
  isplitl [Hat] <;> iassumption

/-- From every device's semaphores and its share of the launch element to every device's start. -/
theorem glob :
    (bigSep Finset.univ fun c => iprop(Pipeline.ownSems0 (Ix := Unit) (Name := ℕ) (U := UU) (Lvl := ℕ) (Val := Elt F) (τ := τ) osem c
        ∗ unscopedSems0 c ∗ G m ρ c) : sProp 𝕄)
      ⊢ |={Set.univ}=> bigSep Finset.univ (G' m ρ) :=
  ((bigSep_mono fun c _ => core_alloc m ρ c).trans (bigSep_fupd _ _)).trans (BI.fupd_mono (regroup m ρ))

/-! ## The credit -/

/-- Of what the devices owe to their peers number `k` in role `r`, a cell gets its role's amount exactly once. -/
theorem owed_once (r r' : Role) (n : ℕ) (k : Fin 3) (c : Dev nD) :
    ∑ d : Dev nD, (tallyAt (kcell (peer d k, r')) () n : CellTallies nD τ sig Unit) (kcell (c, r)) () = if r = r' then n else 0 := by
  simp only [tallyAt_apply, kcell_injective.eq_iff, Prod.mk.injEq, and_true]
  rw [Finset.sum_congr rfl fun d _ => if_congr (Q := d = origin c k ∧ r = r')
    (and_congr_left' ⟨fun h => by rw [h, origin_peer], fun h => by rw [h, peer_origin]⟩) rfl rfl]
  by_cases h : r = r'
  · simp only [h, and_true, Finset.sum_ite_eq', Finset.mem_univ, if_true]
  · simp only [h, and_false, if_false, Finset.sum_const_zero]

/-- What the four devices together owe a cell: three signals to a barrier, one block's bytes to a slot's semaphore, nothing to the others. -/
def roleCredit : Role → ℕ
  | .inl _ => 3
  | .inr (.inl _) => 0
  | .inr (.inr _) => N

/-- The launch's credit of a cell. -/
theorem launch_cell (c : Dev nD) (r : Role) :
    tallyOn (kcell (c, r)) (launchCredit (Pipeline.owing O₀) 0 (kcell (c, r))) = (tallyAt (kcell (c, r)) () (roleCredit r) : CellTallies nD τ sig Unit) := by
  unfold tallyAt; refine congrArg _ (Finsupp.ext fun u => ?_); cases u
  rw [Pipeline.launchCredit_owing, Finsupp.single_eq_same]
  unfold O₀ O₁ owedCopy owedBar
  simp only [Pi.add_apply, Finsupp.add_apply, Finset.sum_add_distrib, owed_once]
  rcases r with _ | k | k
  · simp [roleCredit]
  · simp [roleCredit]
  · fin_cases k <;> simp [roleCredit]

/-- The launch's credit, by the cells that a device waits on for others. -/
theorem creds (c : Dev nD) :
    (Pipeline.launchCred O₀ c : sProp 𝕄)
      ⊢ iprop(cred (tallyAt (kcell (c, bar)) () 3) ∗ bigSep Finset.univ fun k : Fin 3 => cred (tallyAt (kcell (c, rcv k)) () N)) := by
  unfold Pipeline.launchCred
  refine (bigSep_subset (Finset.subset_univ (Finset.univ.map ⟨csem, csem_injective⟩))).trans ?_
  rw [bigSep_map]
  have h : (bigSep Finset.univ fun r : Role => (cred (tallyAt (kcell (c, r)) () (roleCredit r)) : sProp 𝕄))
      ⊢ iprop(cred (tallyAt (kcell (c, bar)) () 3) ∗ bigSep Finset.univ fun k : Fin 3 => cred (tallyAt (kcell (c, rcv k)) () N)) := by
    rw [BI.bigSep_univ_sum, BI.bigSep_univ_sum, Finset.univ_unique, bigSep_singleton]
    have hdrop (A B C : sProp 𝕄) : iprop(A ∗ B ∗ C) ⊢ iprop(A ∗ C) := by
      iintro ⟨HA, -, HC⟩
      isplitl [HA] <;> iassumption
    exact hdrop _ _ _
  exact (Entails.of_eq (bigSep_congr fun r _ => congrArg cred (launch_cell c r))).trans h

/-! ## The launch theorem's conditions -/

/-- The device's start, from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HV⟩
  imodintro
  unfold start G'
  isplitl
  · isplitl [HG]; · iexact HG
    isplitl [HB]; · iexact HB
    isplitl [HV]; · iexact HV
    iexact Hlev
  · iempintro

/-- The state before the body: the start and the three scratch buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The state after the body gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨Hr, HB, Hos⟩
  isplitl [HB]; · iexact HB
  isplitl [Hos]; · iexact Hos
  iexact Hr

/-- The pipeline's waits are allowed at every point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

/-- Every window's array holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory whose semaphores are zero, every fair run of the four devices ends, with the arrays as `QC` says and every semaphore at
zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `A` holds what it held. -/
theorem finalA_in0 (c : Dev nD) : finalA m ρ c (0 : Fin 3) = m (win0_0.arr.view.loc (c : Thread nD τ)) := (dats (F := F) m ρ 0 c).arrAt_in (0 : Fin 3) rfl _
/-- `B` holds what it held. -/
theorem finalA_in1 (c : Dev nD) : finalA m ρ c (1 : Fin 3) = m (win0_1.arr.view.loc (c : Thread nD τ)) := (dats (F := F) m ρ 0 c).arrAt_in (1 : Fin 3) rfl _

end Cert.GatherProof

end
-- ==== Proof.Value.lean ====
/-
# What the result holds

First for any float operations: the pipeline stages the whole of each input, and the result's array ends as the body left its staging buffer.
Then with exact operations, where rounding changes nothing and a product is the sum of the products of the entries: when each device's `A` is
its block of 512 rows of one matrix of 2048 rows, every device's result is the product of that whole matrix with `B`.
-/
module

public import proofs.«01_k».proof.Proof.Run
public import proofs.«01_k».proof.Proof.Gen.ReferenceIdeal
public import Idealize.ShloMosaic.Lib.MatmulPlain
public import Idealize.ShloMosaic.Lib.Layout
public import Idealize.ShloMosaic.Lib.Pipeline.Value

@[expose] public section

set_option maxRecDepth 16384

noncomputable section

namespace Cert.GatherProof

open Cert.KernelIdeal Cert.KernelIdeal.Gen

open Idealize.ShloMosaic
open Idealize.ShloMosaic.TcCoe
open Idealize.ShloMosaic.ValueIdx
open scoped BigOperators

/-! ## Whole arrays in, whole array out -/

section Whole

variable {F : FTy → Type} [FloatOps F]
variable (m : (ℓ : Loc nD τ sig) → Buf (Elt F) ℓ) (ρ : Dev nD → PrngReg)

/-- The staged block of `A` is the device's whole `A`. -/
theorem aStg_eq (c : Dev nD) : aStg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _

/-- The staged `B` is the device's whole `B`. -/
theorem bStg_eq (c : Dev nD) : bStg m ρ c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _

/-- Read through the window's one block, the result's array is what the body left in the staging buffer. -/
theorem finalA_read (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1),
    if_pos (show (cfg0.win (2 : Fin 3)).flush (0 : Fin 1) = true by decide)]
  exact View.read_write_univ _ _

/-- That block is the whole array. -/
theorem finalA_out (c : Dev nD) : finalA m ρ c (2 : Fin 3) = outAt m ρ c :=
  (Memref.read_access_unit_zero (Elt F) main_v1 (off := fun a => win0_2.index (0 : Fin 1) a * main_v1.ty.shape.size a)
    (funext fun a => by fin_cases a <;> decide) (fun a => by fin_cases a <;> decide) _).symm.trans (finalA_read m ρ c)

end Whole

/-! ## Exact operations -/

section Exact

variable (m : (ℓ : Loc nD τ sig) → Buf (Elt Ideal) ℓ) (ρ : Dev nD → PrngReg)

/-- Rounding a block of `A` changes nothing. -/
theorem pay1_exact (v : Vec Ideal S512x256 .f32) : (k0_pay1 (F := Ideal) v : S512x256.Idx → EReal) = v := by
  simp only [k0_pay1, shapeCast_self]
  rfl

/-- Rounding `B` changes nothing. -/
theorem pay2_exact (v : Vec Ideal S256x512 .f32) : (k0_pay2 (F := Ideal) v : S256x512.Idx → EReal) = v := by
  simp only [k0_pay2, shapeCast_self]
  rfl

/-- An entry of a block's product is the sum over the 256 columns of `A`. -/
theorem pay3_exact (a : Vec Ideal S512x256 .bf16) (b : Vec Ideal S256x512 .bf16) (r c : Fin 512) :
    (k0_pay3 (F := Ideal) a b : S512x512.Idx → EReal) (ix2 r c) = ∑ k : Fin 256, (a (ix2 r k) : EReal) * (b (ix2 k c) : EReal) := by
  unfold k0_pay3
  refine (Ideal.matmul_plain_apply (M := 512) (K := 256) (N := 512) none a b _ r c).trans ?_
  show Ideal.ofBits .f32 0x00000000#32 + _ = _
  rw [Ideal.ofBits_zero_f32, zero_add]

/-- An entry of the whole product is the sum over the 256 columns of the whole `A`. -/
theorem whole_exact (A : FVec Ideal Cert.ReferenceIdeal.S2048x256 .f32) (B : FVec Ideal S256x512 .f32) (r : Fin 2048) (c : Fin 512) :
    (Host.dotGeneral Cert.ReferenceIdeal.dot_S2048x256_S256x512_S2048x512_1_0_0_1_n_n none A B : S2048x512.Idx → EReal) (ix2 r c)
      = ∑ k : Fin 256, (A (ix2 r k) : EReal) * (B (ix2 k c) : EReal) :=
  (Ideal.matmul_plain_apply (M := 2048) (K := 256) (N := 512) none A B (fun _ => 0) r c).trans (zero_add _)

/-- When every device's `A` is its block of rows of one matrix and every device's `B` is the same, every device's result is the product of
that matrix with `B`. -/
theorem outAt_exact (A : FVec Ideal Cert.ReferenceIdeal.S2048x256 .f32) (B : FVec Ideal S256x512 .f32)
    (hA : ∀ c : Dev nD, m ((c : Thread nD τ).loc main_arg0) = Layout.block ⟨2, ![512, 256]⟩ ⟨2, ![2048, 256]⟩ 0 4 c A)
    (hB : ∀ c : Dev nD, m ((c : Thread nD τ).loc main_arg1) = B) (c : Dev nD) :
    outAt m ρ c = Host.dotGeneral Cert.ReferenceIdeal.dot_S2048x256_S256x512_S2048x512_1_0_0_1_n_n none A B := by
  funext i
  obtain ⟨r, l, rfl⟩ : ∃ (r : Fin 2048) (l : Fin 512), i = ix2 r l := ⟨_, _, eq_ix2 i⟩
  refine Eq.trans ?_ (whole_exact A B r l).symm
  have ha : (aBf m ρ (blockOf (ix2 r l)) : S512x256.Idx → EReal)
      = Layout.block ⟨2, ![512, 256]⟩ ⟨2, ![2048, 256]⟩ 0 4 (blockOf (ix2 r l)) A :=
    (pay1_exact _).trans ((aStg_eq m ρ _).trans (hA _))
  have hb : (bBf m ρ c : S256x512.Idx → EReal) = B := (pay2_exact _).trans ((bStg_eq m ρ c).trans (hB c))
  have hi : rowIn (ix2 r l) = ix2 (⟨r.val % 512, Nat.mod_lt _ (by decide)⟩ : Fin 512) l := by
    funext a; fin_cases a <;> rfl
  show (k0_pay3 (aBf m ρ (blockOf (ix2 r l))) (bBf m ρ c) : S512x512.Idx → EReal) (rowIn (ix2 r l)) = _
  rw [hi, pay3_exact]
  refine Finset.sum_congr rfl fun k _ => congrArg₂ (· * ·) ((congrFun ha _).trans ?_) (congrFun hb _)
  rw [Layout.block_apply]
  refine congrArg A ?_
  funext a
  apply Fin.ext
  match a with
  | ⟨0, _⟩ => exact Nat.div_add_mod' r.val 512
  | ⟨1, _⟩ => rfl

end Exact

end Cert.GatherProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- What the launch leaves of the inputs, for any float operations: both unchanged on every device. -/
theorem inputs_kept {F : FTy → Type} [FloatOps F]
    {m : (ℓ : Loc Cert.KernelIdeal.nD Cert.KernelIdeal.τ Cert.KernelIdeal.sig) → Buf (Elt F) ℓ} {ρ : Dev Cert.KernelIdeal.nD → PrngReg}
    {r : PUnit × MemSt Cert.KernelIdeal.nD Cert.KernelIdeal.τ Cert.KernelIdeal.sig (Elt F)} (h : GatherProof.QC m ρ r) (c : Dev Cert.KernelIdeal.nD) :
    r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1) :=
  ⟨(h c (0 : Fin 3)).trans (GatherProof.finalA_in0 m ρ c), (h c (1 : Fin 3)).trans (GatherProof.finalA_in1 m ρ c)⟩

/-- For any float operations the kernel ends, with its inputs unchanged and every semaphore at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1))
      ∧ r.2.sem = fun _ => 0) :=
  (θ_run Cert.KernelIdeal.defs _ _).mono (fun _ h => ⟨inputs_kept h.1, h.2⟩) (GatherProof.run_main m ρ)

/-- The two printed programs have the same bodies, looked up by label. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (_, _) => rfl

/-- So they have the same definitions, the pipeline's included. -/
theorem defs_eq : Cert.Kernel.defs (F := Bits) = Cert.KernelIdeal.defs (F := Bits) :=
  congrArg (Pipeline.defs Cert.KernelIdeal.pcfgs) bodies_eq

/-- The kernel on bit patterns: its program is the one that the launch is proved for. -/
theorem frame_kernel : Cert.quiescent_Kernel := by
  intro m ρ _
  rw [defs_eq]
  exact frame_any (F := Bits) m ρ

/-- The same with exact operations. -/
theorem frame_ideal : Cert.quiescent_KernelIdeal := fun m ρ _ => frame_any (F := Ideal) m ρ

/-- The reference ends with its inputs unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With exact operations every device's result is the reference's product of the whole `A` with `B`. -/
theorem algebraic : Cert.algebraic_KernelIdeal_ReferenceIdeal := by
  intro m ρ m' ρ' _ hagree
  refine ⟨_, (θ_run Cert.KernelIdeal.defs _ _).mono (fun r h c => ⟨?_, inputs_kept h.1 c⟩) (GatherProof.run_main (F := Ideal) m ρ),
    (θ_run Cert.ReferenceIdeal.defs _ _).mono (fun r h => h 0) (Cert.ReferenceIdeal.Value.run (F := Ideal) m' ρ')⟩
  exact ((h.1 c (2 : Fin 3)).trans (GatherProof.finalA_out m ρ c)).trans
    (GatherProof.outAt_exact m ρ _ _ (fun c => (hagree c).1) (fun c => (hagree c).2) c)

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
